-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v1 : IVec S512 32) (main_v3 : IVec S512 32) (main_v12 : IVec S_ 1) (main_v17 : IVec S512 1) : IVec S_ 1 :=
  let main_c_4 : IVec S_ 32 := constantI S_ 32 0#32
  let main_v18 : IVec S512 32 := broadcastInDim S512 ![] bcast_S_S512 main_c_4
  let main_v19 : IVec S512 1 := cmpi .sge main_v3 main_v18
  let main_v20 : IVec S512 1 := andi main_v17 main_v19
  let main_c_5 : IVec S_ 32 := constantI S_ 32 64#32
  let main_v21 : IVec S512 32 := broadcastInDim S512 ![] bcast_S_S512 main_c_5
  let main_v22 : IVec S512 1 := cmpi .slt main_v3 main_v21
  let main_v23 : IVec S512 1 := andi main_v20 main_v22
  let main_v24 : IVec S512 1 := cmpi .ne main_v1 main_v3
  let main_v25 : IVec S512 1 := andi main_v23 main_v24
  let main_c_6 : IVec S_ 1 := constantI S_ 1 1#1
  let main_v26 : IVec S_ 1 := (fun x v => Host.reduce IntOp.andi x v reducesTo_S512_S_d0 h_S_) main_v25 main_c_6
  let main_v27 : IVec S_ 1 := andi main_v12 main_v26
  main_v27

def fn {F : FTy → Type} [FloatOps F] (main_arg0 : FVec F S512x256 .f32) (main_arg1 : FVec F S256x64 .f32) (main_arg2 : IVec S512x2 32) (main_arg3 : FVec F S4x256x512 .f32) : IVec S_ 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_v4 : FVec F S512x256 .f32 := Host.absf main_arg0
  let main_cst : FVec F S_ .f32 := constant S_ .f32 0x7F800000#32
  let main_v5 : FVec F S512x256 .f32 := broadcastInDim S512x256 ![] bcast_S_S512x256 main_cst
  let main_v6 : IVec S512x256 1 := cmpf .olt main_v4 main_v5
  let main_c : IVec S_ 1 := constantI S_ 1 1#1
  let main_v7 : IVec S_ 1 := (fun x v => Host.reduce IntOp.andi x v reducesTo_S512x256_S_d0_1 h_S_) main_v6 main_c
  let main_v8 : FVec F S256x64 .f32 := Host.absf main_arg1
  let main_cst_0 : FVec F S_ .f32 := constant S_ .f32 0x7F800000#32
  let main_v9 : FVec F S256x64 .f32 := broadcastInDim S256x64 ![] bcast_S_S256x64 main_cst_0
  let main_v10 : IVec S256x64 1 := cmpf .olt main_v8 main_v9
  let main_c_1 : IVec S_ 1 := constantI S_ 1 1#1
  let main_v11 : IVec S_ 1 := (fun x v => Host.reduce IntOp.andi x v reducesTo_S256x64_S_d0_1 h_S_) main_v10 main_c_1
  let main_v12 : IVec S_ 1 := andi main_v7 main_v11
  let main_c_2 : IVec S_ 32 := constantI S_ 32 0#32
  let main_v13 : IVec S512 32 := broadcastInDim S512 ![] bcast_S_S512 main_c_2
  let main_v14 : IVec S512 1 := cmpi .sge main_v1 main_v13
  let main_c_3 : IVec S_ 32 := constantI S_ 32 64#32
  let main_v15 : IVec S512 32 := broadcastInDim S512 ![] bcast_S_S512 main_c_3
  let main_v16 : IVec S512 1 := cmpi .slt main_v1 main_v15
  let main_v17 : IVec S512 1 := andi main_v14 main_v16
  fn_part1 (F := F) main_v1 main_v3 main_v12 main_v17
-- ==== Pre_routed_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v1 : IVec S512 32) (main_v3 : IVec S512 32) (main_v12 : IVec S_ 1) (main_v17 : IVec S512 1) : IVec S_ 1 :=
  let main_c_4 : IVec S_ 32 := constantI S_ 32 0#32
  let main_v18 : IVec S512 32 := broadcastInDim S512 ![] bcast_S_S512 main_c_4
  let main_v19 : IVec S512 1 := cmpi .sge main_v3 main_v18
  let main_v20 : IVec S512 1 := andi main_v17 main_v19
  let main_c_5 : IVec S_ 32 := constantI S_ 32 64#32
  let main_v21 : IVec S512 32 := broadcastInDim S512 ![] bcast_S_S512 main_c_5
  let main_v22 : IVec S512 1 := cmpi .slt main_v3 main_v21
  let main_v23 : IVec S512 1 := andi main_v20 main_v22
  let main_v24 : IVec S512 1 := cmpi .ne main_v1 main_v3
  let main_v25 : IVec S512 1 := andi main_v23 main_v24
  let main_c_6 : IVec S_ 1 := constantI S_ 1 1#1
  let main_v26 : IVec S_ 1 := (fun x v => Host.reduce IntOp.andi x v reducesTo_S512_S_d0 h_S_) main_v25 main_c_6
  let main_v27 : IVec S_ 1 := andi main_v12 main_v26
  main_v27

def fn {F : FTy → Type} [FloatOps F] (main_arg0 : FVec F S512x256 .f32) (main_arg1 : FVec F S256x64 .f32) (main_arg2 : IVec S512x2 32) (main_arg3 : FVec F S64x256x512 .f32) : IVec S_ 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_v4 : FVec F S512x256 .f32 := Host.absf main_arg0
  let main_cst : FVec F S_ .f32 := constant S_ .f32 0x7F800000#32
  let main_v5 : FVec F S512x256 .f32 := broadcastInDim S512x256 ![] bcast_S_S512x256 main_cst
  let main_v6 : IVec S512x256 1 := cmpf .olt main_v4 main_v5
  let main_c : IVec S_ 1 := constantI S_ 1 1#1
  let main_v7 : IVec S_ 1 := (fun x v => Host.reduce IntOp.andi x v reducesTo_S512x256_S_d0_1 h_S_) main_v6 main_c
  let main_v8 : FVec F S256x64 .f32 := Host.absf main_arg1
  let main_cst_0 : FVec F S_ .f32 := constant S_ .f32 0x7F800000#32
  let main_v9 : FVec F S256x64 .f32 := broadcastInDim S256x64 ![] bcast_S_S256x64 main_cst_0
  let main_v10 : IVec S256x64 1 := cmpf .olt main_v8 main_v9
  let main_c_1 : IVec S_ 1 := constantI S_ 1 1#1
  let main_v11 : IVec S_ 1 := (fun x v => Host.reduce IntOp.andi x v reducesTo_S256x64_S_d0_1 h_S_) main_v10 main_c_1
  let main_v12 : IVec S_ 1 := andi main_v7 main_v11
  let main_c_2 : IVec S_ 32 := constantI S_ 32 0#32
  let main_v13 : IVec S512 32 := broadcastInDim S512 ![] bcast_S_S512 main_c_2
  let main_v14 : IVec S512 1 := cmpi .sge main_v1 main_v13
  let main_c_3 : IVec S_ 32 := constantI S_ 32 64#32
  let main_v15 : IVec S512 32 := broadcastInDim S512 ![] bcast_S_S512 main_c_3
  let main_v16 : IVec S512 1 := cmpi .slt main_v1 main_v15
  let main_v17 : IVec S512 1 := andi main_v14 main_v16
  fn_part1 (F := F) main_v1 main_v3 main_v12 main_v17
-- ==== Kernel.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S512x512 : Shape := ⟨2, ![512, 512]⟩
abbrev S12x128x512 : Shape := ⟨3, ![12, 128, 512]⟩
abbrev S12 : Shape := ⟨1, ![12]⟩
abbrev S_ : Shape := ⟨0, ![]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S128x256 : Shape := ⟨2, ![128, 256]⟩
abbrev S128x1 : Shape := ⟨2, ![128, 1]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩
abbrev S64x512 : Shape := ⟨2, ![64, 512]⟩
abbrev S1x64x512 : Shape := ⟨3, ![1, 64, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S12x128x512, .bf16⟩
  | .local _ .vmem, ⟨6, _⟩ => ⟨S12x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c2_i32_7 : BitVec 32 := 2#32
  let c2_i32_6 : BitVec 32 := 2#32
  let v12 : BitVec 32 := Scalar.remsi v4 c2_i32_6
  let v13 : BitVec 32 := Scalar.muli c2_i32_7 v12
  let v14 : BitVec 32 := Scalar.subi v11 v13
  let v15 : BitVec 32 := Scalar.addi v10 v14
  let c1_i32_16 : BitVec 32 := 1#32
  let v30 : BitVec 32 := Scalar.muli v15 c1_i32_16
  let v31 : BitVec 32 := Scalar.addi c0_i32 v30
  v31.toNat
def k0_dev2 (d0 : Dev nD) : Nat :=
  let c0_i32_19 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_8 v3
  let c3_i32 : BitVec 32 := 3#32
  let c4_i32_0 : BitVec 32 := 4#32
  let v4 : BitVec 32 := Scalar.remsi v2 c4_i32_0
  let v17 : BitVec 32 := Scalar.subi c3_i32 v4
  let v18 : BitVec 32 := Scalar.addi v16 v17
  let c1_i32_18 : BitVec 32 := 1#32
  let v32 : BitVec 32 := Scalar.muli v18 c1_i32_18
  let v33 : BitVec 32 := Scalar.addi c0_i32_19 v32
  v33.toNat
def k0_dev3 (d0 : Dev nD) : Nat :=
  let c0_i32_22 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_9 : BitVec 32 := 1#32
  let v19 : BitVec 32 := Scalar.addi v3 c1_i32_9
  let c2_i32_10 : BitVec 32 := 2#32
  let c2_i32_2 : BitVec 32 := 2#32
  let v8 : BitVec 32 := Scalar.remsi v3 c2_i32_2
  let v20 : BitVec 32 := Scalar.muli c2_i32_10 v8
  let v21 : BitVec 32 := Scalar.subi v19 v20
  let v22 : BitVec 32 := Scalar.muli c4_i32_11 v21
  let c4_i32_0 : BitVec 32 := 4#32
  let v4 : BitVec 32 := Scalar.remsi v2 c4_i32_0
  let v23 : BitVec 32 := Scalar.addi v22 v4
  let c1_i32_21 : BitVec 32 := 1#32
  let v34 : BitVec 32 := Scalar.muli v23 c1_i32_21
  let v35 : BitVec 32 := Scalar.addi c0_i32_22 v34
  v35.toNat
def k0_dev4 (d0 : Dev nD) : Nat :=
  let c0_i32_25 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_12 : BitVec 32 := 2#32
  let v24 : BitVec 32 := Scalar.addi v3 c2_i32_12
  let c4_i32_13 : BitVec 32 := 4#32
  let c2_i32_3 : BitVec 32 := 2#32
  let v9 : BitVec 32 := Scalar.divsi v3 c2_i32_3
  let v25 : BitVec 32 := Scalar.muli c4_i32_13 v9
  let v26 : BitVec 32 := Scalar.subi v24 v25
  let v27 : BitVec 32 := Scalar.muli c4_i32_14 v26
  let c4_i32_0 : BitVec 32 := 4#32
  let v4 : BitVec 32 := Scalar.remsi v2 c4_i32_0
  let v28 : BitVec 32 := Scalar.addi v27 v4
  let c1_i32_24 : BitVec 32 := 1#32
  let v36 : BitVec 32 := Scalar.muli v28 c1_i32_24
  let v37 : BitVec 32 := Scalar.addi c0_i32_25 v36
  v37.toNat
def k0_dev5 (d0 : Dev nD) : Nat :=
  let c0_i32_67 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c2_i32_7 : BitVec 32 := 2#32
  let c2_i32_6 : BitVec 32 := 2#32
  let v12 : BitVec 32 := Scalar.remsi v4 c2_i32_6
  let v13 : BitVec 32 := Scalar.muli c2_i32_7 v12
  let v14 : BitVec 32 := Scalar.subi v11 v13
  let v15 : BitVec 32 := Scalar.addi v10 v14
  let c1_i32_66 : BitVec 32 := 1#32
  let v120 : BitVec 32 := Scalar.muli v15 c1_i32_66
  let v121 : BitVec 32 := Scalar.addi c0_i32_67 v120
  v121.toNat
def k0_dev6 (d0 : Dev nD) : Nat :=
  let c0_i32_81 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_8 v3
  let c3_i32 : BitVec 32 := 3#32
  let c4_i32_0 : BitVec 32 := 4#32
  let v4 : BitVec 32 := Scalar.remsi v2 c4_i32_0
  let v17 : BitVec 32 := Scalar.subi c3_i32 v4
  let v18 : BitVec 32 := Scalar.addi v16 v17
  let c1_i32_80 : BitVec 32 := 1#32
  let v136 : BitVec 32 := Scalar.muli v18 c1_i32_80
  let v137 : BitVec 32 := Scalar.addi c0_i32_81 v136
  v137.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c128_i32 : BitVec 32 := 128#32
  let v107 : BitVec 32 := Scalar.muli v7 c128_i32
  let c1_i32_113 : BitVec 32 := 1#32
  let v172 : BitVec 32 := Scalar.subi c1_i32_113 v5
  let c64_i32_114 : BitVec 32 := 64#32
  let v173 : BitVec 32 := Scalar.muli v172 c64_i32_114
  let v174 : BitVec 32 := Scalar.addi v107 v173
  let v175 : Index := Scalar.indexCast v174
  let c0_115 : Index := 0#32
  ![v175.toNat, 0]
def k0_off2 (d0 : Dev nD) : Fin 3 → Nat :=
  let c0_118 : Index := 0#32
  let c1_i32_116 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v178 : BitVec 32 := Scalar.subi c1_i32_116 v5
  let c64_i32_117 : BitVec 32 := 64#32
  let v179 : BitVec 32 := Scalar.muli v178 c64_i32_117
  let v180 : Index := Scalar.indexCast v179
  let c0_119 : Index := 0#32
  ![0, v180.toNat, 0]
def k0_dev7 (d0 : Dev nD) : Nat :=
  let c0_i32_127 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_8 v3
  let c3_i32 : BitVec 32 := 3#32
  let c4_i32_0 : BitVec 32 := 4#32
  let v4 : BitVec 32 := Scalar.remsi v2 c4_i32_0
  let v17 : BitVec 32 := Scalar.subi c3_i32 v4
  let v18 : BitVec 32 := Scalar.addi v16 v17
  let c1_i32_126 : BitVec 32 := 1#32
  let v189 : BitVec 32 := Scalar.muli v18 c1_i32_126
  let v190 : BitVec 32 := Scalar.addi c0_i32_127 v189
  v190.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c128_i32 : BitVec 32 := 128#32
  let v107 : BitVec 32 := Scalar.muli v7 c128_i32
  let c64_i32 : BitVec 32 := 64#32
  let v108 : BitVec 32 := Scalar.muli v5 c64_i32
  let v109 : BitVec 32 := Scalar.addi v107 v108
  let v201 : Index := Scalar.indexCast v109
  let c0_133 : Index := 0#32
  ![v201.toNat, 0]
def k0_off4 (d0 : Dev nD) : Fin 3 → Nat :=
  let c0_135 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c64_i32_134 : BitVec 32 := 64#32
  let v204 : BitVec 32 := Scalar.muli v5 c64_i32_134
  let v205 : Index := Scalar.indexCast v204
  let c0_136 : Index := 0#32
  ![0, v205.toNat, 0]
def k0_off5 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c128_i32_55 : BitVec 32 := 128#32
  let v110 : BitVec 32 := Scalar.muli v5 c128_i32_55
  let v111 : BitVec 32 := Scalar.addi c256_i32 v110
  let c1_i32_157 : BitVec 32 := 1#32
  let v6 : BitVec 32 := Scalar.addi v4 v5
  let c2_i32_1 : BitVec 32 := 2#32
  let v7 : BitVec 32 := Scalar.remsi v6 c2_i32_1
  let v226 : BitVec 32 := Scalar.subi c1_i32_157 v7
  let c64_i32_158 : BitVec 32 := 64#32
  let v227 : BitVec 32 := Scalar.muli v226 c64_i32_158
  let v228 : BitVec 32 := Scalar.addi v111 v227
  let v229 : Index := Scalar.indexCast v228
  let c0_159 : Index := 0#32
  ![v229.toNat, 0]
def k0_off6 (d0 : Dev nD) : Fin 3 → Nat :=
  let c1_162 : Index := 1#32
  let c1_i32_160 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v232 : BitVec 32 := Scalar.subi c1_i32_160 v7
  let c64_i32_161 : BitVec 32 := 64#32
  let v233 : BitVec 32 := Scalar.muli v232 c64_i32_161
  let v234 : Index := Scalar.indexCast v233
  let c0_163 : Index := 0#32
  ![1, v234.toNat, 0]
def k0_dev8 (d0 : Dev nD) : Nat :=
  let c0_i32_171 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c2_i32_7 : BitVec 32 := 2#32
  let c2_i32_6 : BitVec 32 := 2#32
  let v12 : BitVec 32 := Scalar.remsi v4 c2_i32_6
  let v13 : BitVec 32 := Scalar.muli c2_i32_7 v12
  let v14 : BitVec 32 := Scalar.subi v11 v13
  let v15 : BitVec 32 := Scalar.addi v10 v14
  let c1_i32_170 : BitVec 32 := 1#32
  let v243 : BitVec 32 := Scalar.muli v15 c1_i32_170
  let v244 : BitVec 32 := Scalar.addi c0_i32_171 v243
  v244.toNat
def k0_off7 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c128_i32_55 : BitVec 32 := 128#32
  let v110 : BitVec 32 := Scalar.muli v5 c128_i32_55
  let v111 : BitVec 32 := Scalar.addi c256_i32 v110
  let v6 : BitVec 32 := Scalar.addi v4 v5
  let c2_i32_1 : BitVec 32 := 2#32
  let v7 : BitVec 32 := Scalar.remsi v6 c2_i32_1
  let c64_i32_56 : BitVec 32 := 64#32
  let v112 : BitVec 32 := Scalar.muli v7 c64_i32_56
  let v113 : BitVec 32 := Scalar.addi v111 v112
  let v255 : Index := Scalar.indexCast v113
  let c0_177 : Index := 0#32
  ![v255.toNat, 0]
def k0_off8 (d0 : Dev nD) : Fin 3 → Nat :=
  let c1_179 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c64_i32_178 : BitVec 32 := 64#32
  let v258 : BitVec 32 := Scalar.muli v7 c64_i32_178
  let v259 : Index := Scalar.indexCast v258
  let c0_180 : Index := 0#32
  ![1, v259.toNat, 0]
def k0_dev9 (d0 : Dev nD) : Nat :=
  let c0_i32_212 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_9 : BitVec 32 := 1#32
  let v19 : BitVec 32 := Scalar.addi v3 c1_i32_9
  let c2_i32_10 : BitVec 32 := 2#32
  let c2_i32_2 : BitVec 32 := 2#32
  let v8 : BitVec 32 := Scalar.remsi v3 c2_i32_2
  let v20 : BitVec 32 := Scalar.muli c2_i32_10 v8
  let v21 : BitVec 32 := Scalar.subi v19 v20
  let v22 : BitVec 32 := Scalar.muli c4_i32_11 v21
  let c4_i32_0 : BitVec 32 := 4#32
  let v4 : BitVec 32 := Scalar.remsi v2 c4_i32_0
  let v23 : BitVec 32 := Scalar.addi v22 v4
  let c1_i32_211 : BitVec 32 := 1#32
  let v291 : BitVec 32 := Scalar.muli v23 c1_i32_211
  let v292 : BitVec 32 := Scalar.addi c0_i32_212 v291
  v292.toNat
def k0_dev10 (d0 : Dev nD) : Nat :=
  let c0_i32_247 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_9 : BitVec 32 := 1#32
  let v19 : BitVec 32 := Scalar.addi v3 c1_i32_9
  let c2_i32_10 : BitVec 32 := 2#32
  let c2_i32_2 : BitVec 32 := 2#32
  let v8 : BitVec 32 := Scalar.remsi v3 c2_i32_2
  let v20 : BitVec 32 := Scalar.muli c2_i32_10 v8
  let v21 : BitVec 32 := Scalar.subi v19 v20
  let v22 : BitVec 32 := Scalar.muli c4_i32_11 v21
  let c4_i32_0 : BitVec 32 := 4#32
  let v4 : BitVec 32 := Scalar.remsi v2 c4_i32_0
  let v23 : BitVec 32 := Scalar.addi v22 v4
  let c1_i32_246 : BitVec 32 := 1#32
  let v328 : BitVec 32 := Scalar.muli v23 c1_i32_246
  let v329 : BitVec 32 := Scalar.addi c0_i32_247 v328
  v329.toNat
def k0_dev11 (d0 : Dev nD) : Nat :=
  let c0_i32_282 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_12 : BitVec 32 := 2#32
  let v24 : BitVec 32 := Scalar.addi v3 c2_i32_12
  let c4_i32_13 : BitVec 32 := 4#32
  let c2_i32_3 : BitVec 32 := 2#32
  let v9 : BitVec 32 := Scalar.divsi v3 c2_i32_3
  let v25 : BitVec 32 := Scalar.muli c4_i32_13 v9
  let v26 : BitVec 32 := Scalar.subi v24 v25
  let v27 : BitVec 32 := Scalar.muli c4_i32_14 v26
  let c4_i32_0 : BitVec 32 := 4#32
  let v4 : BitVec 32 := Scalar.remsi v2 c4_i32_0
  let v28 : BitVec 32 := Scalar.addi v27 v4
  let c1_i32_281 : BitVec 32 := 1#32
  let v365 : BitVec 32 := Scalar.muli v28 c1_i32_281
  let v366 : BitVec 32 := Scalar.addi c0_i32_282 v365
  v366.toNat
def k0_dev12 (d0 : Dev nD) : Nat :=
  let c0_i32_317 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_12 : BitVec 32 := 2#32
  let v24 : BitVec 32 := Scalar.addi v3 c2_i32_12
  let c4_i32_13 : BitVec 32 := 4#32
  let c2_i32_3 : BitVec 32 := 2#32
  let v9 : BitVec 32 := Scalar.divsi v3 c2_i32_3
  let v25 : BitVec 32 := Scalar.muli c4_i32_13 v9
  let v26 : BitVec 32 := Scalar.subi v24 v25
  let v27 : BitVec 32 := Scalar.muli c4_i32_14 v26
  let c4_i32_0 : BitVec 32 := 4#32
  let v4 : BitVec 32 := Scalar.remsi v2 c4_i32_0
  let v28 : BitVec 32 := Scalar.addi v27 v4
  let c1_i32_316 : BitVec 32 := 1#32
  let v402 : BitVec 32 := Scalar.muli v28 c1_i32_316
  let v403 : BitVec 32 := Scalar.addi c0_i32_317 v402
  v403.toNat
def k0_dev13 (d0 : Dev nD) : Nat :=
  let c0_i32_352 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_8 v3
  let c3_i32 : BitVec 32 := 3#32
  let c4_i32_0 : BitVec 32 := 4#32
  let v4 : BitVec 32 := Scalar.remsi v2 c4_i32_0
  let v17 : BitVec 32 := Scalar.subi c3_i32 v4
  let v18 : BitVec 32 := Scalar.addi v16 v17
  let c1_i32_351 : BitVec 32 := 1#32
  let v439 : BitVec 32 := Scalar.muli v18 c1_i32_351
  let v440 : BitVec 32 := Scalar.addi c0_i32_352 v439
  v440.toNat
def k0_dev14 (d0 : Dev nD) : Nat :=
  let c0_i32_387 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c2_i32_7 : BitVec 32 := 2#32
  let c2_i32_6 : BitVec 32 := 2#32
  let v12 : BitVec 32 := Scalar.remsi v4 c2_i32_6
  let v13 : BitVec 32 := Scalar.muli c2_i32_7 v12
  let v14 : BitVec 32 := Scalar.subi v11 v13
  let v15 : BitVec 32 := Scalar.addi v10 v14
  let c1_i32_386 : BitVec 32 := 1#32
  let v476 : BitVec 32 := Scalar.muli v15 c1_i32_386
  let v477 : BitVec 32 := Scalar.addi c0_i32_387 v476
  v477.toNat
def k0_off9 (d0 : Dev nD) : Fin 3 → Nat :=
  let c10 : Index := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c64_i32_413 : BitVec 32 := 64#32
  let v506 : BitVec 32 := Scalar.muli v5 c64_i32_413
  let v507 : Index := Scalar.indexCast v506
  let c0_414 : Index := 0#32
  ![10, v507.toNat, 0]
def k0_off10 (d0 : Dev nD) : Fin 3 → Nat :=
  let c10_420 : Index := 10#32
  let c1_i32_418 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v513 : BitVec 32 := Scalar.subi c1_i32_418 v5
  let c64_i32_419 : BitVec 32 := 64#32
  let v514 : BitVec 32 := Scalar.muli v513 c64_i32_419
  let v515 : Index := Scalar.indexCast v514
  let c0_421 : Index := 0#32
  ![10, v515.toNat, 0]
def k0_dev15 (d0 : Dev nD) : Nat :=
  let c0_i32_426 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c2_i32_7 : BitVec 32 := 2#32
  let c2_i32_6 : BitVec 32 := 2#32
  let v12 : BitVec 32 := Scalar.remsi v4 c2_i32_6
  let v13 : BitVec 32 := Scalar.muli c2_i32_7 v12
  let v14 : BitVec 32 := Scalar.subi v11 v13
  let v15 : BitVec 32 := Scalar.addi v10 v14
  let c1_i32_425 : BitVec 32 := 1#32
  let v519 : BitVec 32 := Scalar.muli v15 c1_i32_425
  let v520 : BitVec 32 := Scalar.addi c0_i32_426 v519
  v520.toNat
def k0_off11 (d0 : Dev nD) : Fin 3 → Nat :=
  let c11 : Index := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c64_i32_457 : BitVec 32 := 64#32
  let v555 : BitVec 32 := Scalar.muli v7 c64_i32_457
  let v556 : Index := Scalar.indexCast v555
  let c0_458 : Index := 0#32
  ![11, v556.toNat, 0]
def k0_off12 (d0 : Dev nD) : Fin 3 → Nat :=
  let c11_464 : Index := 11#32
  let c1_i32_462 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v562 : BitVec 32 := Scalar.subi c1_i32_462 v7
  let c64_i32_463 : BitVec 32 := 64#32
  let v563 : BitVec 32 := Scalar.muli v562 c64_i32_463
  let v564 : Index := Scalar.indexCast v563
  let c0_465 : Index := 0#32
  ![11, v564.toNat, 0]
def k0_dev16 (d0 : Dev nD) : Nat :=
  let c0_i32_470 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_8 v3
  let c3_i32 : BitVec 32 := 3#32
  let c4_i32_0 : BitVec 32 := 4#32
  let v4 : BitVec 32 := Scalar.remsi v2 c4_i32_0
  let v17 : BitVec 32 := Scalar.subi c3_i32 v4
  let v18 : BitVec 32 := Scalar.addi v16 v17
  let c1_i32_469 : BitVec 32 := 1#32
  let v568 : BitVec 32 := Scalar.muli v18 c1_i32_469
  let v569 : BitVec 32 := Scalar.addi c0_i32_470 v568
  v569.toNat
def k0_off13 (d0 : Dev nD) : Fin 2 → Nat :=
  let c1_i32_503 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v603 : BitVec 32 := Scalar.subi c1_i32_503 v7
  let c128_i32_504 : BitVec 32 := 128#32
  let v604 : BitVec 32 := Scalar.muli v603 c128_i32_504
  let v605 : Index := Scalar.indexCast v604
  let c0_505 : Index := 0#32
  ![v605.toNat, 0]
def k0_off14 (d0 : Dev nD) : Fin 2 → Nat :=
  let c256_i32_530 : BitVec 32 := 256#32
  let c1_i32_528 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v624 : BitVec 32 := Scalar.subi c1_i32_528 v5
  let c128_i32_529 : BitVec 32 := 128#32
  let v625 : BitVec 32 := Scalar.muli v624 c128_i32_529
  let v626 : BitVec 32 := Scalar.addi c256_i32_530 v625
  let v627 : Index := Scalar.indexCast v626
  let c0_531 : Index := 0#32
  ![v627.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S64x256x512, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x64, .f32⟩
  | .hbm, ⟨15, _⟩ => ⟨S512x64, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.KI.Mesh.lean ====
/- The mesh of sixteen devices as four planes of four, the four partners a device exchanges with, and the rows of the
   result each of the twelve transfers carries. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

namespace Cert.KI

open Cert.KernelIdeal Cert.KernelIdeal.Gen
open Idealize.ShloMosaic Idealize.ShloMosaic.TcCoe

/-! ## Devices -/

/-- The half of the first 256 rows a device keeps: bit `x` of its place in its plane. -/
def bx (c : Dev nD) : ℕ := (c.val % 4 + c.val % 4 / 2) % 2
/-- The half of the last 256 rows a device keeps: bit `y` of its place in its plane. -/
def by' (c : Dev nD) : ℕ := c.val % 4 / 2

/-- The four partners: the two neighbours in the plane (along `x`, along `y`) and the two across planes. -/
def peer (k : Fin 4) (c : Dev nD) : Dev nD := match k with
  | 0 => ⟨(c.val + 1 - 2 * (c.val % 2)) % 16, Nat.mod_lt _ (by decide)⟩
  | 1 => ⟨(8 * (c.val / 4) + 3 - c.val) % 16, Nat.mod_lt _ (by decide)⟩
  | 2 => ⟨(c.val + 4 - 8 * (c.val / 4 % 2)) % 16, Nat.mod_lt _ (by decide)⟩
  | 3 => ⟨(c.val + 8 - 16 * (c.val / 8)) % 16, Nat.mod_lt _ (by decide)⟩

/-- A device is its partner's partner. -/
theorem peer_peer (k : Fin 4) (c : Dev nD) : peer k (peer k c) = c := by revert k c; decide
/-- `d` is the partner of `c` just when `c` is the partner of `d`. -/
theorem peer_inj {k : Fin 4} {c d : Dev nD} : Iff (peer k c = d) (c = peer k d) :=
  ⟨fun h => by rw [← h, peer_peer], fun h => by rw [h, peer_peer]⟩
/-- The partners differ from each other. -/
theorem peer_ne {k k' : Fin 4} (h : k ≠ k') (c : Dev nD) : peer k c ≠ peer k' c := by revert k k' c; decide

/-- Exchanging with partner `k` permutes the devices. -/
def swap (k : Fin 4) : Dev nD ≃ Dev nD := ⟨peer k, peer k, peer_peer k, peer_peer k⟩

/-- Bit `x` is 0 or 1. -/
theorem bx_lt (c : Dev nD) : bx c < 2 := by revert c; decide
/-- Bit `y` is 0 or 1. -/
theorem by_lt (c : Dev nD) : by' c < 2 := by revert c; decide
/-- The partner along `x` has the other bit `x`, -/
theorem bx_px (c : Dev nD) : bx (peer 0 c) = 1 - bx c := by revert c; decide
/-- and the same bit `y`. -/
theorem by_px (c : Dev nD) : by' (peer 0 c) = by' c := by revert c; decide
/-- The partner along `y` has the same bit `x`, -/
theorem bx_py (c : Dev nD) : bx (peer 1 c) = bx c := by revert c; decide
/-- and the other bit `y`. -/
theorem by_py (c : Dev nD) : by' (peer 1 c) = 1 - by' c := by revert c; decide
/-- The first partner across planes has the same bit `x`, -/
theorem bx_pz1 (c : Dev nD) : bx (peer 2 c) = bx c := by revert c; decide
/-- and the same bit `y`. -/
theorem by_pz1 (c : Dev nD) : by' (peer 2 c) = by' c := by revert c; decide
/-- The second partner across planes has the same bit `x`, -/
theorem bx_pz2 (c : Dev nD) : bx (peer 3 c) = bx c := by revert c; decide
/-- and the same bit `y`. -/
theorem by_pz2 (c : Dev nD) : by' (peer 3 c) = by' c := by revert c; decide
/-- The partner along `x` is in the same plane. -/
theorem plane_px (c : Dev nD) : (peer 0 c).val / 4 = c.val / 4 := by revert c; decide
/-- The partner along `y` is in the same plane. -/
theorem plane_py (c : Dev nD) : (peer 1 c).val / 4 = c.val / 4 := by revert c; decide

/-! ## Transfers -/

/-- The partner of transfer `s`. -/
def dir (s : Fin 12) : Fin 4 := ![0, 1, 1, 0, 2, 2, 3, 3, 1, 0, 0, 1] s
/-- The device transfer `s` of device `c` goes to — and the one whose transfer `s` comes to `c`. -/
abbrev pr (s : Fin 12) (c : Dev nD) : Dev nD := peer (dir s) c
/-- How many rows transfer `s` moves. -/
def rows (s : Fin 12) : ℕ := ![128, 128, 64, 64, 64, 64, 64, 64, 64, 64, 128, 128] s
/-- The row of the result the first row of transfer `s` of device `c` belongs to. -/
def base (s : Fin 12) (c : Dev nD) : ℕ := match s with
  | 0 => 128 - 128 * bx c
  | 1 => 384 - 128 * by' c
  | 2 => 128 * bx c + 64 - 64 * by' c
  | 3 => 256 + 128 * by' c + 64 - 64 * bx c
  | 4 | 6 | 8 => 128 * bx c + 64 * by' c
  | 5 | 7 | 9 => 256 + 128 * by' c + 64 * bx c
  | 10 => 128 * bx c
  | 11 => 256 + 128 * by' c

/-- A transfer moves at most 128 rows. -/
theorem rows_le (s : Fin 12) : rows s ≤ 128 := by revert s; decide
/-- A transfer's rows are rows of the result. -/
theorem base_le (s : Fin 12) (c : Dev nD) : base s c + rows s ≤ 512 := by revert s c; decide

/-! ## The printed partners and conditions -/

/-- A device the program signals: the partner along `x`. -/
theorem dev1_eq (c : Dev nD) : (⟨k0_dev1 c, k0_dev1_lt c⟩ : Dev nD) = peer 0 c := by revert c; decide +kernel
/-- A device the program signals: the partner along `y`. -/
theorem dev2_eq (c : Dev nD) : (⟨k0_dev2 c, k0_dev2_lt c⟩ : Dev nD) = peer 1 c := by revert c; decide +kernel
/-- A device the program signals: the partner first across planes. -/
theorem dev3_eq (c : Dev nD) : (⟨k0_dev3 c, k0_dev3_lt c⟩ : Dev nD) = peer 2 c := by revert c; decide +kernel
/-- A device the program signals: the partner second across planes. -/
theorem dev4_eq (c : Dev nD) : (⟨k0_dev4 c, k0_dev4_lt c⟩ : Dev nD) = peer 3 c := by revert c; decide +kernel
/-- The device the program sends transfer 0 to. -/
theorem dev5_eq (c : Dev nD) : (⟨k0_dev5 c, k0_dev5_lt c⟩ : Dev nD) = pr 0 c := by revert c; decide +kernel
/-- The device the program sends transfer 1 to. -/
theorem dev6_eq (c : Dev nD) : (⟨k0_dev6 c, k0_dev6_lt c⟩ : Dev nD) = pr 1 c := by revert c; decide +kernel
/-- The device the program sends transfer 2 to. -/
theorem dev7_eq (c : Dev nD) : (⟨k0_dev7 c, k0_dev7_lt c⟩ : Dev nD) = pr 2 c := by revert c; decide +kernel
/-- The device the program sends transfer 3 to. -/
theorem dev8_eq (c : Dev nD) : (⟨k0_dev8 c, k0_dev8_lt c⟩ : Dev nD) = pr 3 c := by revert c; decide +kernel
/-- The device the program sends transfer 4 to. -/
theorem dev9_eq (c : Dev nD) : (⟨k0_dev9 c, k0_dev9_lt c⟩ : Dev nD) = pr 4 c := by revert c; decide +kernel
/-- The device the program sends transfer 5 to. -/
theorem dev10_eq (c : Dev nD) : (⟨k0_dev10 c, k0_dev10_lt c⟩ : Dev nD) = pr 5 c := by revert c; decide +kernel
/-- The device the program sends transfer 6 to. -/
theorem dev11_eq (c : Dev nD) : (⟨k0_dev11 c, k0_dev11_lt c⟩ : Dev nD) = pr 6 c := by revert c; decide +kernel
/-- The device the program sends transfer 7 to. -/
theorem dev12_eq (c : Dev nD) : (⟨k0_dev12 c, k0_dev12_lt c⟩ : Dev nD) = pr 7 c := by revert c; decide +kernel
/-- The device the program sends transfer 8 to. -/
theorem dev13_eq (c : Dev nD) : (⟨k0_dev13 c, k0_dev13_lt c⟩ : Dev nD) = pr 8 c := by revert c; decide +kernel
/-- The device the program sends transfer 9 to. -/
theorem dev14_eq (c : Dev nD) : (⟨k0_dev14 c, k0_dev14_lt c⟩ : Dev nD) = pr 9 c := by revert c; decide +kernel
/-- The device the program sends transfer 10 to. -/
theorem dev15_eq (c : Dev nD) : (⟨k0_dev15 c, k0_dev15_lt c⟩ : Dev nD) = pr 10 c := by revert c; decide +kernel
/-- The device the program sends transfer 11 to. -/
theorem dev16_eq (c : Dev nD) : (⟨k0_dev16 c, k0_dev16_lt c⟩ : Dev nD) = pr 11 c := by revert c; decide +kernel

/-- Corners with equal rows are equal. -/
theorem off_eq {n n' : ℕ} (h : n = n') : (![n, 0] : Fin 2 → ℕ) = ![n', 0] := by rw [h]
/-- A corner in the result array, as printed: the first row of transfer 2. -/
theorem off1_eq (c : Dev nD) : k0_off1 c = ![base 2 c, 0] := by rw [k0_off1_eq]; apply off_eq; revert c; decide
/-- A corner in the result array, as printed: the first row of transfer 4. -/
theorem off3_eq (c : Dev nD) : k0_off3 c = ![base 4 c, 0] := by rw [k0_off3_eq]; apply off_eq; revert c; decide
/-- A corner in the result array, as printed: the first row of transfer 3. -/
theorem off5_eq (c : Dev nD) : k0_off5 c = ![base 3 c, 0] := by rw [k0_off5_eq]; apply off_eq; revert c; decide
/-- A corner in the result array, as printed: the first row of transfer 5. -/
theorem off7_eq (c : Dev nD) : k0_off7 c = ![base 5 c, 0] := by rw [k0_off7_eq]; apply off_eq; revert c; decide
/-- A corner in the result array, as printed: the first row of transfer 0. -/
theorem off13_eq (c : Dev nD) : k0_off13 c = ![base 0 c, 0] := by rw [k0_off13_eq]; apply off_eq; revert c; decide
/-- A corner in the result array, as printed: the first row of transfer 1. -/
theorem off14_eq (c : Dev nD) : k0_off14 c = ![base 1 c, 0] := by rw [k0_off14_eq]; apply off_eq; revert c; decide

/-- Corners of a transfer buffer with equal rows are equal. -/
theorem off3_eq' {a n n' : ℕ} (h : n = n') : (![a, n, 0] : Fin 3 → ℕ) = ![a, n', 0] := by rw [h]
/-- A corner in a transfer buffer, as printed: in what transfer 0 brought, of the quarter passed on. -/
theorem off2_eq (c : Dev nD) : k0_off2 c = ![0, 64 - 64 * by' c, 0] := by rw [k0_off2_eq]; apply off3_eq'; revert c; decide
/-- A corner in a transfer buffer, as printed: in what transfer 0 brought, of the quarter kept. -/
theorem off4_eq (c : Dev nD) : k0_off4 c = ![0, 64 * by' c, 0] := by rw [k0_off4_eq]; apply off3_eq'; revert c; decide
/-- A corner in a transfer buffer, as printed: in what transfer 1 brought, of the quarter passed on. -/
theorem off6_eq (c : Dev nD) : k0_off6 c = ![1, 64 - 64 * bx c, 0] := by rw [k0_off6_eq]; apply off3_eq'; revert c; decide
/-- A corner in a transfer buffer, as printed: in what transfer 1 brought, of the quarter kept. -/
theorem off8_eq (c : Dev nD) : k0_off8 c = ![1, 64 * bx c, 0] := by rw [k0_off8_eq]; apply off3_eq'; revert c; decide
/-- A corner in a transfer buffer, as printed: in transfer 10's places, of the device's own quarter. -/
theorem off9_eq (c : Dev nD) : k0_off9 c = ![10, 64 * by' c, 0] := by rw [k0_off9_eq]; apply off3_eq'; revert c; decide
/-- A corner in a transfer buffer, as printed: in transfer 10's places, of the neighbour's quarter. -/
theorem off10_eq (c : Dev nD) : k0_off10 c = ![10, 64 - 64 * by' c, 0] := by rw [k0_off10_eq]; apply off3_eq'; revert c; decide
/-- A corner in a transfer buffer, as printed: in transfer 11's places, of the device's own quarter. -/
theorem off11_eq (c : Dev nD) : k0_off11 c = ![11, 64 * bx c, 0] := by rw [k0_off11_eq]; apply off3_eq'; revert c; decide
/-- A corner in a transfer buffer, as printed: in transfer 11's places, of the neighbour's quarter. -/
theorem off12_eq (c : Dev nD) : k0_off12 c = ![11, 64 - 64 * bx c, 0] := by rw [k0_off12_eq]; apply off3_eq'; revert c; decide

end Cert.KI

end
-- ==== Proof.KI.Content.lean ====
/- What the arrays hold: a device's partial result, its running sums over the partners, what each transfer carries, and
   the result array between two steps. Rows and columns are plain numbers. -/
module

public import proofs.«01_k».proof.Proof.KI.Mesh
public import Idealize.ShloMosaic.Lib.PointwiseCore

@[expose] public section

noncomputable section

namespace Cert.KI

open Cert.KernelIdeal Cert.KernelIdeal.Gen
open Idealize.ShloMosaic Idealize.ShloMosaic.TcCoe

variable {F : FTy → Type} [FloatOps F]

/-- The four operands, device by device. -/
structure Inp (F : FTy → Type) where
  x : Dev nD → Vec F S512x256 .f32
  w : Dev nD → Vec F S256x64 .f32
  ix : Dev nD → Vec F S512x2 .i32
  e : Dev nD → Vec F S4x256x512 .f32

/-! ## One device's partial result -/

/-- A device's number as the program computes it. -/
def devWord (c : Dev nD) : BitVec 32 := Scalar.remsi (Scalar.divsi (Dev.word c) 1#32) 16#32

/-- One column of the routing table. -/
def col (I : Vec F S512x2 .i32) (k : ℕ) (h : ∀ a, (![0, k] : Fin 2 → ℕ) a + S512x1.size a ≤ S512x2.size a) : Vec F S512x1 .i32 :=
  fun i => I ((Rect.unit (s := S512x2) ![0, k] S512x1.size h).emb i)
/-- One expert's matrix. -/
def exq (E : Vec F S4x256x512 .f32) (k : ℕ) (h : ∀ a, (![k, 0, 0] : Fin 3 → ℕ) a + S1x256x512.size a ≤ S4x256x512.size a) : Vec F S1x256x512 .f32 :=
  fun i => E ((Rect.unit (s := S4x256x512) ![k, 0, 0] S1x256x512.size h).emb i)

/-- The iota the routing comparisons are made against. -/
def lanes : IVec S512x64 32 := iota .tc S512x64 32 [1] iota_S512x64_d1_w32

section Gates
variable (X : Vec F S512x256 .f32) (W : Vec F S256x64 .f32) (I0 I1 : Vec F S512x1 .i32) (c : Dev nD)
/-- The weight every row gives the device's first expert. -/
def gate0 : FVec F S512x1 .f32 := k0_pay16 (devWord c) (k0_pay10 X W) lanes (k0_pay11 I0) (k0_pay12 I1) (k0_pay13 X W I0) (k0_pay14 X W I1)
/-- The weight every row gives the device's second expert. -/
def gate1 : FVec F S512x1 .f32 := k0_pay17 (devWord c) (k0_pay10 X W) lanes (k0_pay11 I0) (k0_pay12 I1) (k0_pay13 X W I0) (k0_pay14 X W I1)
/-- The weight every row gives the device's third expert. -/
def gate2 : FVec F S512x1 .f32 := k0_pay18 (devWord c) (k0_pay10 X W) lanes (k0_pay11 I0) (k0_pay12 I1) (k0_pay13 X W I0) (k0_pay14 X W I1)
/-- The weight every row gives the device's fourth expert. -/
def gate3 : FVec F S512x1 .f32 := k0_pay19 (devWord c) (k0_pay10 X W) lanes (k0_pay11 I0) (k0_pay12 I1) (k0_pay13 X W I0) (k0_pay14 X W I1)
end Gates

variable (A : Inp F)

/-- The routing table's first column. -/
def col0 (c : Dev nD) : Vec F S512x1 .i32 := col (A.ix c) 0 inb_S512x2_S512x1_0_0
/-- The routing table's second column. -/
def col1 (c : Dev nD) : Vec F S512x1 .i32 := col (A.ix c) 1 inb_S512x2_S512x1_0_1
/-- The weights of the device's first expert, from what the device holds. -/
def g0 (c : Dev nD) : FVec F S512x1 .f32 := gate0 (A.x c) (A.w c) (col0 A c) (col1 A c) c
/-- The weights of the device's second expert, from what the device holds. -/
def g1 (c : Dev nD) : FVec F S512x1 .f32 := gate1 (A.x c) (A.w c) (col0 A c) (col1 A c) c
/-- The weights of the device's third expert, from what the device holds. -/
def g2 (c : Dev nD) : FVec F S512x1 .f32 := gate2 (A.x c) (A.w c) (col0 A c) (col1 A c) c
/-- The weights of the device's fourth expert, from what the device holds. -/
def g3 (c : Dev nD) : FVec F S512x1 .f32 := gate3 (A.x c) (A.w c) (col0 A c) (col1 A c) c
/-- The matrix of the device's first expert. -/
def e0 (c : Dev nD) := exq (A.e c) 0 inb_S4x256x512_S1x256x512_0_0_0
/-- The matrix of the device's second expert. -/
def e1 (c : Dev nD) := exq (A.e c) 1 inb_S4x256x512_S1x256x512_1_0_0
/-- The matrix of the device's third expert. -/
def e2 (c : Dev nD) := exq (A.e c) 2 inb_S4x256x512_S1x256x512_2_0_0
/-- The matrix of the device's fourth expert. -/
def e3 (c : Dev nD) := exq (A.e c) 3 inb_S4x256x512_S1x256x512_3_0_0

/-- The partial result of a device, 128 rows at a time. -/
def blk (c : Dev nD) : ℕ → FVec F S128x512 .f32
  | 0 => k0_pay1 (k0_pay9 (A.x c)) (g0 A c) (g1 A c) (g2 A c) (g3 A c) (e0 A c) (e1 A c) (e2 A c) (e3 A c)
  | 1 => k0_pay3 (k0_pay9 (A.x c)) (g0 A c) (g1 A c) (g2 A c) (g3 A c) (e0 A c) (e1 A c) (e2 A c) (e3 A c)
  | 2 => k0_pay5 (k0_pay9 (A.x c)) (g0 A c) (g1 A c) (g2 A c) (g3 A c) (e0 A c) (e1 A c) (e2 A c) (e3 A c)
  | _ => k0_pay7 (k0_pay9 (A.x c)) (g0 A c) (g1 A c) (g2 A c) (g3 A c) (e0 A c) (e1 A c) (e2 A c) (e3 A c)

/-- The index of a 128-row block at a row and column. -/
abbrev at128 (r j : ℕ) : S128x512.Idx := ix2 ⟨r % 128, Nat.mod_lt _ (by decide)⟩ ⟨j % 512, Nat.mod_lt _ (by decide)⟩

/-- The partial result of a device at a row and a column. -/
def part (c : Dev nD) (r j : ℕ) : F .f32 := blk A c (r / 128) (at128 r j)

/-! ## The running sums -/

/-- The partner of step `n` for a row: the rows below 256 go along `x` first, the others along `y` first. -/
def pt (n r : ℕ) : Fin 4 := match n with
  | 0 => if r < 256 then 0 else 1
  | 1 => if r < 256 then 1 else 0
  | 2 => 2
  | _ => 3

/-- A value as it is sent: rounded to the narrow type. -/
abbrev narrow (v : F .f32) : F .bf16 := FloatOps.truncf .bf16 bitsLt_bf16_f32 v
/-- A value as it is received: widened. -/
abbrev widen (v : F .bf16) : F .f32 := FloatOps.extf .f32 bitsLt_bf16_f32 v

/-- The sum after `n` steps. -/
def acc : ℕ → Dev nD → ℕ → ℕ → F .f32
  | 0, c, r, j => part A c r j
  | n + 1, c, r, j => FloatOps.addf (acc n c r j) (widen (narrow (acc n (peer (pt n r) c) r j)))

/-- The device of `c`'s plane that completes a row. -/
def own (r : ℕ) (c : Dev nD) : Dev nD :=
  let x := if r < 256 then r / 128 else r % 128 / 64
  let y := if r < 256 then r % 128 / 64 else (r - 256) / 128
  ⟨(4 * (c.val / 4) + 2 * y + (x + y) % 2) % 16, Nat.mod_lt _ (by decide)⟩

/-- A completed row, rounded, as its owner sends it round the plane. -/
def res (c : Dev nD) (r j : ℕ) : F .bf16 := narrow (acc A 4 (own r c) r j)

/-- What transfer `s` of device `c` carries at a row and column of the buffer. -/
def sentAt (c : Dev nD) (s : Fin 12) (r j : ℕ) : F .bf16 :=
  if s.val < 10 then narrow (acc A (s.val / 2) c (base s c + r) j) else res A c (base s c + r) j
/-- The send buffer of device `c`, every transfer filled in. -/
def sent (c : Dev nD) : Vec F S12x128x512 .bf16 := fun i => sentAt A c (i 0) (i 1).val (i 2).val

/-- The value of the result array at level `k`: after `k` steps, or (from 5) received back. -/
def val (k : ℕ) (c : Dev nD) (r j : ℕ) : F .f32 := if k ≤ 4 then acc A k c r j else widen (res A c r j)

/-! ## The result array, region by region -/

/-- The region of a row on device `c`: the completed quarter, its neighbour, the other half; the same for the last 256 rows. -/
def reg (c : Dev nD) (r : ℕ) : Fin 6 :=
  if r < 256 then if r / 128 = bx c then if r % 128 / 64 = by' c then 0 else 1 else 2
  else if (r - 256) / 128 = by' c then if r % 128 / 64 = bx c then 3 else 4 else 5
/-- A region's first row. -/
def rb (ρ : Fin 6) (c : Dev nD) : ℕ := base (![4, 2, 0, 5, 3, 1] ρ) c
/-- A region's number of rows. -/
def rl (ρ : Fin 6) : ℕ := ![64, 64, 128, 64, 64, 128] ρ

/-- A row is of a region just when it is one of the rows from its first row on. -/
theorem reg_eq (c : Dev nD) (ρ : Fin 6) {r : ℕ} (hr : r < 512) : Iff (reg c r = ρ) (rb ρ c ≤ r ∧ r < rb ρ c + rl ρ) := by
  have hx := bx_lt c
  have hy := by_lt c
  unfold reg
  fin_cases ρ <;> simp [rb, rl, base] <;> split_ifs <;> simp <;> omega

/-- The result array with each region at a level. -/
def outAt (c : Dev nD) (κ : Fin 6 → ℕ) : Vec F S512x512 .f32 := fun i => val A (κ (reg c (i 0).val)) c (i 0).val (i 1).val

end Cert.KI

end
-- ==== Proof.KI.Steps.lean ====
/- One step on the result array or on a transfer buffer: what a load reads, what a store leaves, and the sums the
   program forms between them. -/
module

public import proofs.«01_k».proof.Proof.KI.Content

@[expose] public section

noncomputable section

namespace Cert.KI

open Cert.KernelIdeal Cert.KernelIdeal.Gen
open Idealize.ShloMosaic Idealize.ShloMosaic.TcCoe

variable {F : FTy → Type} [FloatOps F] (A : Inp F)

/-! ## The sums -/

/-- A step adds the partner's sum, rounded to be sent. -/
theorem acc_succ (n : ℕ) (c : Dev nD) (r j : ℕ) :
    acc A (n + 1) c r j = FloatOps.addf (acc A n c r j) (widen (narrow (acc A n (peer (pt n r) c) r j))) := rfl

/-- The neighbour along `x` has the same owner for a row. -/
theorem own_px (r : ℕ) (c : Dev nD) : own r (peer 0 c) = own r c := Fin.ext (by unfold own; simp only [plane_px])
/-- So has the neighbour along `y`. -/
theorem own_py (r : ℕ) (c : Dev nD) : own r (peer 1 c) = own r c := Fin.ext (by unfold own; simp only [plane_py])
/-- A device is the one at its place in its plane. -/
theorem own_place (c : Dev nD) : (4 * (c.val / 4) + 2 * by' c + (bx c + by' c) % 2) % 16 = c.val := by revert c; decide
/-- A device owns the rows of its completed quarters. -/
theorem own_self (c : Dev nD) {r : ℕ} (h : (if r < 256 then r / 128 else r % 128 / 64) = bx c)
    (h' : (if r < 256 then r % 128 / 64 else (r - 256) / 128) = by' c) : own r c = c :=
  Fin.ext (by unfold own; simp only [h, h']; exact own_place c)
/-- A completed row is the same for the neighbour along `x`, -/
theorem res_px (c : Dev nD) (r j : ℕ) : res A (peer 0 c) r j = res A c r j := by unfold res; rw [own_px]
/-- and for the one along `y`. -/
theorem res_py (c : Dev nD) (r j : ℕ) : res A (peer 1 c) r j = res A c r j := by unfold res; rw [own_py]

/-- Bit `x` is 0 or is 1. -/
theorem bx_cases (c : Dev nD) : bx c = 0 ∨ bx c = 1 := by have := bx_lt c; omega
/-- Bit `y` is 0 or is 1. -/
theorem by_cases' (c : Dev nD) : by' c = 0 ∨ by' c = 1 := by have := by_lt c; omega

/-- The rows of the first of a device's two completed quarters are its own. -/
theorem own4 (c : Dev nD) {r : ℕ} (h : r < 64) : own (base 4 c + r) c = c := by
  apply own_self <;> rcases bx_cases c with hx | hx <;> rcases by_cases' c with hy | hy <;> simp only [base, hx, hy] <;> split_ifs <;> omega
/-- The same of the second of the two quarters. -/
theorem own5 (c : Dev nD) {r : ℕ} (h : r < 64) : own (base 5 c + r) c = c := by
  apply own_self <;> rcases bx_cases c with hx | hx <;> rcases by_cases' c with hy | hy <;> simp only [base, hx, hy] <;> split_ifs <;> omega
/-- The first of a device's own completed quarters, rounded, is the result there. -/
theorem res4 (c : Dev nD) (r j : ℕ) (h : r < 64) : narrow (acc A 4 c (base 4 c + r) j) = res A c (base 4 c + r) j := by
  unfold res; rw [own4 c h]
/-- The same of the second of the two quarters. -/
theorem res5 (c : Dev nD) (r j : ℕ) (h : r < 64) : narrow (acc A 4 c (base 5 c + r) j) = res A c (base 5 c + r) j := by
  unfold res; rw [own5 c h]

/-! ## What arrives -/

/-- What transfer `s` brings to device `c`, for the summing transfers: its partner's sum, at the row it belongs to. -/
theorem got_sum (c : Dev nD) (s : Fin 12) (hs : s.val < 8) (r j : ℕ) :
    sentAt A (pr s c) s r j = narrow (acc A (s.val / 2) (pr s c) (base s (pr s c) + r) j) := by
  unfold sentAt; rw [if_pos (by omega)]

/-- The completed quarter of the neighbour along `y` arrives by transfer 8, -/
theorem got8 (c : Dev nD) (r j : ℕ) (h : r < 64) : sentAt A (pr 8 c) 8 r j = res A c (base 2 c + r) j := by
  rw [← res_py, ← show base 4 (peer 1 c) = base 2 c from by revert c; decide]
  exact res4 A (peer 1 c) r j h
/-- and that of the neighbour along `x` by transfer 9. -/
theorem got9 (c : Dev nD) (r j : ℕ) (h : r < 64) : sentAt A (pr 9 c) 9 r j = res A c (base 3 c + r) j := by
  rw [← res_px, ← show base 5 (peer 0 c) = base 3 c from by revert c; decide]
  exact res5 A (peer 0 c) r j h
/-- The other half of the first rows arrives by transfer 10, -/
theorem got10 (c : Dev nD) (r j : ℕ) : sentAt A (pr 10 c) 10 r j = res A c (base 0 c + r) j := by
  rw [← res_px, ← show base 10 (peer 0 c) = base 0 c from by revert c; decide]; rfl
/-- and that of the last rows by transfer 11. -/
theorem got11 (c : Dev nD) (r j : ℕ) : sentAt A (pr 11 c) 11 r j = res A c (base 1 c + r) j := by
  rw [← res_py, ← show base 11 (peer 1 c) = base 1 c from by revert c; decide]; rfl

/-- Transfer `s` joins the sums of its step: the partner's sum arrives and is added. -/
theorem acc_join (c : Dev nD) (s : Fin 12) (hs : s.val < 8) {R r : ℕ} (j : ℕ) (hr : pt (s.val / 2) R = dir s) (hR : base s (pr s c) + r = R) :
    FloatOps.addf (acc A (s.val / 2) c R j) (widen (sentAt A (pr s c) s r j)) = acc A (s.val / 2 + 1) c R j := by
  rw [got_sum A c s hs, hR, acc_succ, hr]

/-! ## Loads and stores -/

/-- A load of a region of the result array reads the region at its level. -/
theorem out_read (c : Dev nD) (κ : Fin 6 → ℕ) (ρ : Fin 6) {off size : Fin 2 → ℕ} (inb : ∀ a, off a + size a ≤ S512x512.size a)
    (h0 : off 0 = rb ρ c) (h1 : off 1 = 0) (hs : size 0 ≤ rl ρ) (x : (Rect.unit (s := S512x512) off size inb).toLoadRect.shape.Idx) :
    (Memref.whole cc0_stg4_0).view.readAt (Elt F) (Rect.unit (s := S512x512) off size inb).toLoadRect (outAt A c κ) x
      = val A (κ ρ) c (rb ρ c + (x 0).val) (x 1).val := by
  have hx : (x 0).val < size 0 := (x 0).isLt
  have hb : off 0 + size 0 ≤ 512 := inb 0
  have e0 : ((Rect.unit (s := S512x512) off size inb).toLoadRect.idx x 0).val = rb ρ c + (x 0).val := by
    show off 0 + 1 * (x 0).val = _; rw [h0, Nat.one_mul]
  have e1 : ((Rect.unit (s := S512x512) off size inb).toLoadRect.idx x 1).val = (x 1).val := by
    show off 1 + 1 * (x 1).val = _; rw [h1, Nat.one_mul, Nat.zero_add]
  show outAt A c κ ((Rect.unit (s := S512x512) off size inb).toLoadRect.idx x) = _
  unfold outAt
  rw [e0, e1, (reg_eq c ρ (by omega)).mpr ⟨by omega, by omega⟩]

/-- A store of a whole region at level `n` raises the region to that level. -/
theorem out_write (c : Dev nD) (κ : Fin 6 → ℕ) (ρ : Fin 6) (n : ℕ) {off size : Fin 2 → ℕ} (inb : ∀ a, off a + size a ≤ S512x512.size a)
    (h0 : off 0 = rb ρ c) (h1 : off 1 = 0) (hs : size 0 = rl ρ) (hs1 : size 1 = 512)
    (w : (Rect.unit (s := S512x512) off size inb).shape.Idx → Elt F .f32) (hw : ∀ x, w x = val A n c (rb ρ c + (x 0).val) (x 1).val) :
    ((Memref.whole cc0_stg4_0).access (Rect.unit (s := S512x512) off size inb)).write (Elt F) (outAt A c κ) w Finset.univ
      = outAt A c (Function.update κ ρ n) := by
  funext i
  have hi : (i 0).val < 512 := (i 0).isLt
  have hi1 : (i 1).val < 512 := (i 1).isLt
  have hb : off 0 + size 0 ≤ 512 := inb 0
  show ((View.whole cc0_stg4_0).slice (Rect.unit (s := S512x512) off size inb)).write (Elt F) (outAt A c κ) w Finset.univ i = _
  by_cases h : reg c (i 0).val = ρ
  · have hr := (reg_eq c ρ hi).mp h
    obtain ⟨x, rfl⟩ : ∃ x, (Rect.unit (s := S512x512) off size inb).emb x = i :=
      ⟨fun a => ⟨(i a).val - off a, by fin_cases a <;> simp <;> omega⟩, funext fun a => Fin.ext (by
        rw [Rect.emb_apply]; fin_cases a <;> simp <;> omega)⟩
    have e0 : ((Rect.unit (s := S512x512) off size inb).emb x 0).val = rb ρ c + (x 0).val := by
      show off 0 + 1 * (x 0).val = _; rw [h0, Nat.one_mul]
    have e1 : ((Rect.unit (s := S512x512) off size inb).emb x 1).val = (x 1).val := by
      show off 1 + 1 * (x 1).val = _; rw [h1, Nat.one_mul, Nat.zero_add]
    refine (View.write_emb_of_mem (v := (View.whole cc0_stg4_0).slice (Rect.unit (s := S512x512) off size inb)) (outAt A c κ) w (Finset.mem_univ x)).trans ?_
    show w x = _
    unfold outAt
    rw [h, Function.update_self, e0, e1]
    exact hw x
  · rw [View.write_of_not_mem]
    · unfold outAt
      rw [Function.update_of_ne h]
    · intro hm
      have hm' : i ∈ (Rect.unit (s := S512x512) off size inb).set := by
        have := hm; rw [show ((View.whole cc0_stg4_0).slice (Rect.unit (s := S512x512) off size inb)).setOn Finset.univ
          = ((View.whole cc0_stg4_0).slice (Rect.unit (s := S512x512) off size inb)).set from rfl, View.set_slice_whole] at this
        exact this
      have := Rect.mem_set_unit.mp hm' 0
      exact h ((reg_eq c ρ hi).mpr (by omega))

/-! ## The transfer buffers -/

/-- The places of a transfer buffer that transfer `s` moves. -/
def slot (s : Fin 12) : Finset S12x128x512.Idx := Finset.univ.filter fun i => (i 0).val = s.val ∧ (i 1).val < rows s
/-- A place is transfer `s`'s when it is in its part of the buffer, on one of its rows. -/
theorem mem_slot {s : Fin 12} {i : S12x128x512.Idx} : Iff (i ∈ slot s) ((i 0).val = s.val ∧ (i 1).val < rows s) := by
  unfold slot; rw [Finset.mem_filter]; exact ⟨fun h => h.2, fun h => ⟨Finset.mem_univ _, h⟩⟩

/-- The rectangle the program names for transfer `s`. -/
theorem slot_rect (s : Fin 12) {off size : Fin 3 → ℕ} (inb : ∀ a, off a + size a ≤ S12x128x512.size a)
    (h0 : off 0 = s.val) (h1 : off 1 = 0) (h2 : off 2 = 0) (s0 : size 0 = 1) (s1 : size 1 = rows s) (s2 : size 2 = 512) :
    (Rect.unit (s := S12x128x512) off size inb).set = slot s := by
  ext i
  rw [mem_slot, Rect.mem_set_unit]
  have hi2 : (i 2).val < 512 := (i 2).isLt
  constructor
  · intro h
    have a0 := h 0; have a1 := h 1
    omega
  · intro h a
    match a with
    | 0 => show off 0 ≤ (i 0).val ∧ (i 0).val < off 0 + size 0; omega
    | 1 => show off 1 ≤ (i 1).val ∧ (i 1).val < off 1 + size 1; omega
    | 2 => show off 2 ≤ (i 2).val ∧ (i 2).val < off 2 + size 2; omega

/-- A rectangle inside transfer `s`'s places. -/
theorem slot_sub (s : Fin 12) {off size : Fin 3 → ℕ} (inb : ∀ a, off a + size a ≤ S12x128x512.size a)
    (h0 : off 0 = s.val) (s0 : size 0 = 1) (s1 : off 1 + size 1 ≤ rows s) :
    (Rect.unit (s := S12x128x512) off size inb).set ⊆ slot s := by
  intro i hi
  rw [Rect.mem_set_unit] at hi
  have a0 := hi 0; have a1 := hi 1
  rw [mem_slot]; omega

/-- A load from a receive buffer holding what device `d` sent reads it. -/
theorem rcv_read (d : Dev nD) (s : Fin 12) (o : ℕ) {off size : Fin 3 → ℕ} (inb : ∀ a, off a + size a ≤ S12x128x512.size a)
    (h0 : off 0 = s.val) (h1 : off 1 = o) (h2 : off 2 = 0) (s0 : size 0 = 1)
    (x : (Rect.unit (s := S12x128x512) off size inb).toLoadRect.shape.Idx) :
    (Memref.whole cc0_scratch1).view.readAt (Elt F) (Rect.unit (s := S12x128x512) off size inb).toLoadRect (sent A d) x
      = sentAt A d s (o + (x 1).val) (x 2).val := by
  have hx : (x 0).val < size 0 := (x 0).isLt
  have e0 : (Rect.unit (s := S12x128x512) off size inb).toLoadRect.idx x 0 = s := Fin.ext (by
    show off 0 + 1 * (x 0).val = _; omega)
  have e1 : ((Rect.unit (s := S12x128x512) off size inb).toLoadRect.idx x 1).val = o + (x 1).val := by
    show off 1 + 1 * (x 1).val = _; omega
  have e2 : ((Rect.unit (s := S12x128x512) off size inb).toLoadRect.idx x 2).val = (x 2).val := by
    show off 2 + 1 * (x 2).val = _; omega
  show sent A d ((Rect.unit (s := S12x128x512) off size inb).toLoadRect.idx x) = _
  unfold sent
  rw [e1, e2, e0]

/-- After a store of what transfer `s` carries, the send buffer holds it — on the rows stored, and where it already did. -/
theorem snd_write (d : Dev nD) (s : Fin 12) (o : ℕ) {off size : Fin 3 → ℕ} (inb : ∀ a, off a + size a ≤ S12x128x512.size a)
    (h0 : off 0 = s.val) (h1 : off 1 = o) (h2 : off 2 = 0) (s0 : size 0 = 1) (s2 : size 2 = 512) (f : Vec F S12x128x512 .bf16)
    (w : (Rect.unit (s := S12x128x512) off size inb).shape.Idx → Elt F .bf16) (hw : ∀ x, w x = sentAt A d s (o + (x 1).val) (x 2).val)
    (i : S12x128x512.Idx) (hi : (i 0).val = s.val) (h : (o ≤ (i 1).val ∧ (i 1).val < o + size 1) ∨ f i = sent A d i) :
    ((Memref.whole cc0_scratch0).access (Rect.unit (s := S12x128x512) off size inb)).write (Elt F) f w Finset.univ i = sent A d i := by
  have hi2 : (i 2).val < 512 := (i 2).isLt
  show ((View.whole cc0_scratch0).slice (Rect.unit (s := S12x128x512) off size inb)).write (Elt F) f w Finset.univ i = _
  by_cases hin : o ≤ (i 1).val ∧ (i 1).val < o + size 1
  · obtain ⟨x, rfl⟩ : ∃ x, (Rect.unit (s := S12x128x512) off size inb).emb x = i :=
      ⟨fun a => ⟨(i a).val - off a, by fin_cases a <;> simp <;> omega⟩, funext fun a => Fin.ext (by
        rw [Rect.emb_apply]; fin_cases a <;> simp <;> omega)⟩
    have hx : (x 0).val < size 0 := (x 0).isLt
    have e0 : (Rect.unit (s := S12x128x512) off size inb).emb x 0 = s := Fin.ext hi
    have e1 : ((Rect.unit (s := S12x128x512) off size inb).emb x 1).val = o + (x 1).val := by
      show off 1 + 1 * (x 1).val = _; omega
    have e2 : ((Rect.unit (s := S12x128x512) off size inb).emb x 2).val = (x 2).val := by
      show off 2 + 1 * (x 2).val = _; omega
    refine (View.write_emb_of_mem (v := (View.whole cc0_scratch0).slice (Rect.unit (s := S12x128x512) off size inb)) f w (Finset.mem_univ x)).trans ?_
    show w x = _
    unfold sent
    rw [e1, e2, e0]
    exact hw x
  · rw [View.write_of_not_mem]
    · exact h.resolve_left hin
    · intro hm
      have hm' : i ∈ (Rect.unit (s := S12x128x512) off size inb).set := by
        have := hm; rw [show ((View.whole cc0_scratch0).slice (Rect.unit (s := S12x128x512) off size inb)).setOn Finset.univ
          = ((View.whole cc0_scratch0).slice (Rect.unit (s := S12x128x512) off size inb)).set from rfl, View.set_slice_whole] at this
        exact this
      have := Rect.mem_set_unit.mp hm' 1
      exact hin (by omega)

/-! ## The program's values, elementwise -/

/-- A sum a step forms: what is held, and what arrived, widened. -/
theorem pay28_at (v : Vec F S64x512 .f32) (w : Vec F S1x64x512 .bf16) (r : Fin 64) (j : Fin 512) :
    k0_pay28 v w (ix2 r j) = FloatOps.addf (v (ix2 r j)) (widen (w (ix3 0 r j))) := by
  pointwise [k0_pay28]
/-- The same sum, rounded to be sent. -/
theorem pay29_at (v : Vec F S64x512 .f32) (w : Vec F S1x64x512 .bf16) (r : Fin 64) (j : Fin 512) :
    k0_pay29 v w (ix3 0 r j) = narrow (FloatOps.addf (v (ix2 r j)) (widen (w (ix3 0 r j)))) := by
  pointwise [k0_pay29, k0_pay28]
/-- A completed quarter, rounded to be sent. -/
theorem pay49_at (v : Vec F S64x512 .f32) (r : Fin 64) (j : Fin 512) : k0_pay49 v (ix3 0 r j) = narrow (v (ix2 r j)) := by
  pointwise [k0_pay49]
/-- A quarter that arrived, sent on as it is. -/
theorem pay54_at (w : Vec F S1x64x512 .bf16) (r : Fin 64) (j : Fin 512) : k0_pay54 w (ix3 0 r j) = w (ix3 0 r j) := by
  pointwise [k0_pay54]
/-- A quarter that arrived, widened. -/
theorem pay52_at (w : Vec F S1x64x512 .bf16) (r : Fin 64) (j : Fin 512) : k0_pay52 w (ix2 r j) = widen (w (ix3 0 r j)) := by
  pointwise [k0_pay52]
/-- A half that arrived, widened. -/
theorem pay56_at (w : Vec F S1x128x512 .bf16) (r : Fin 128) (j : Fin 512) : k0_pay56 w (ix2 r j) = widen (w (ix3 0 r j)) := by
  pointwise [k0_pay56]
/-- A block of the partial result, as it is stored to be sent. -/
theorem pay20_at (v : FVec F S128x512 .bf16) (r : Fin 128) (j : Fin 512) : k0_pay20 v (ix3 0 r j) = v (ix2 r j) := by
  pointwise [k0_pay20]

/-- A later sum is formed as the first. -/
theorem pay30_eq : k0_pay30 (F := F) = k0_pay28 := rfl
/-- A later sum is formed as the first. -/
theorem pay31_eq : k0_pay31 (F := F) = k0_pay28 := rfl
/-- A later sum is formed as the first. -/
theorem pay34_eq (v : Vec F S64x512 .f32) : k0_pay34 (k0_pay33 v) = k0_pay28 (F := F) v := rfl
/-- A later sum is formed as the first. -/
theorem pay35_eq : k0_pay35 (F := F) = k0_pay28 := rfl
/-- A later sum is formed as the first. -/
theorem pay38_eq : k0_pay38 (F := F) = k0_pay28 := rfl
/-- A later sum is formed as the first. -/
theorem pay40_eq : k0_pay40 (F := F) = k0_pay28 := rfl
/-- A later sum is formed as the first. -/
theorem pay42_eq : k0_pay42 (F := F) = k0_pay28 := rfl
/-- A later sum is formed as the first. -/
theorem pay45_eq : k0_pay45 (F := F) = k0_pay28 := rfl
/-- A later sum is formed as the first. -/
theorem pay47_eq : k0_pay47 (F := F) = k0_pay28 := rfl
/-- A later rounded sum is formed as the first. -/
theorem pay32_eq : k0_pay32 (F := F) = k0_pay29 := rfl
/-- A later rounded sum is formed as the first. -/
theorem pay37_eq (v : Vec F S64x512 .f32) (w : Vec F S1x64x512 .bf16) : k0_pay37 (k0_pay36 v w) = k0_pay29 v w := rfl
/-- A later rounded sum is formed as the first. -/
theorem pay39_eq : k0_pay39 (F := F) = k0_pay29 := rfl
/-- A later rounded sum is formed as the first. -/
theorem pay41_eq : k0_pay41 (F := F) = k0_pay29 := rfl
/-- A later rounded sum is formed as the first. -/
theorem pay44_eq (v : Vec F S64x512 .f32) (w : Vec F S1x64x512 .bf16) : k0_pay44 (k0_pay43 v w) = k0_pay29 v w := rfl
/-- A later rounded sum is formed as the first. -/
theorem pay46_eq : k0_pay46 (F := F) = k0_pay29 := rfl
/-- A later rounded sum is formed as the first. -/
theorem pay48_eq : k0_pay48 (F := F) = k0_pay29 := rfl
/-- The other completed quarter is rounded in the same way. -/
theorem pay53_eq : k0_pay53 (F := F) = k0_pay49 := rfl
/-- The other arrived quarter is sent on in the same way. -/
theorem pay51_eq (w : Vec F S1x64x512 .bf16) : k0_pay51 (k0_pay50 w) = k0_pay54 w := rfl
/-- The other arrived quarter is widened in the same way. -/
theorem pay55_eq : k0_pay55 (F := F) = k0_pay52 := rfl
/-- The other arrived half is widened in the same way. -/
theorem pay57_eq : k0_pay57 (F := F) = k0_pay56 := rfl
/-- Another block is stored to be sent in the same way. -/
theorem pay21_eq : k0_pay21 (F := F) = k0_pay20 := rfl
/-- Another block is stored to be sent in the same way. -/
theorem pay22_eq : k0_pay22 (F := F) = k0_pay20 := rfl
/-- Another block is stored to be sent in the same way. -/
theorem pay23_eq : k0_pay23 (F := F) = k0_pay20 := rfl
/-- The block of the first 128 rows is formed alike whether it goes out first or not. -/
theorem pay25_eq : k0_pay25 (F := F) = k0_pay1 := rfl
/-- The block of the rows from 128 on is formed alike whether it goes out first or not. -/
theorem pay24_eq : k0_pay24 (F := F) = k0_pay3 := rfl
/-- The block of the rows from 256 on is formed alike whether it goes out first or not. -/
theorem pay27_eq : k0_pay27 (F := F) = k0_pay5 := rfl
/-- The block of the rows from 384 on is formed alike whether it goes out first or not. -/
theorem pay26_eq : k0_pay26 (F := F) = k0_pay7 := rfl

end Cert.KI

end
-- ==== Proof.KI.Protocol.lean ====
/- The protocol: a device's barrier cell is paid one unit by each of its four partners, who hand over the places of
   their receive buffers it writes to; every transfer has a send cell and a receive cell of its own, used once. -/
module

public import proofs.«01_k».proof.Proof.KI.Steps

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the exchange: rounds of the cells. -/
abbrev UB : Type := URounds (GSem nD τ sig) (Fin 4)
/-- With the ghost state of the staging. -/
abbrev UU : Type := UR sig nD τ × UB

local notation "𝕄" => MT nD τ sig Unit (Elt F) ℕ UU ℕ

/-- Where the staging's ghost state lies. -/
abbrev EP : Emb (UR sig nD τ) (MT nD τ sig Unit (Elt F) ℕ UU ℕ) := embL
/-- Where the exchange's ghost state lies. -/
abbrev ER : Emb UB (MT nD τ sig Unit (Elt F) ℕ UU ℕ) := embR

/-! ## The cells -/

/-- The barrier semaphore. -/
abbrev barS : Sem sig := (SemArray.scalar (sig.barrier 0 rfl) : Sems sig S_).sem
/-- The semaphore of transfer `s` that counts what has been sent. -/
def sendS (s : Fin 12) : DmaSem sig := ⟨5 + s.val, by have := s.isLt; show 5 + s.val < 29; omega⟩
/-- The semaphore of transfer `s` that counts what arrives. -/
def recvS (s : Fin 12) : DmaSem sig := ⟨17 + s.val, by have := s.isLt; show 17 + s.val < 29; omega⟩

/-- A device's barrier cell. -/
abbrev barCell (c : Dev nD) : GSem nD τ sig := ((c : Thread nD τ), .reg barS)
/-- A device's send cell of transfer `s`. -/
abbrev sendCell (c : Dev nD) (s : Fin 12) : GSem nD τ sig := ((c : Thread nD τ), .dma (sendS s))
/-- A device's receive cell of transfer `s`. -/
abbrev recvCell (c : Dev nD) (s : Fin 12) : GSem nD τ sig := ((c : Thread nD τ), .dma (recvS s))

/-- The semaphores the kernel owns: the twelve send ones, the twelve receive ones. -/
abbrev osem : Fin 24 → SemLoc sig := fun k => .dma ⟨5 + k.val, by have := k.isLt; show 5 + k.val < 29; omega⟩

/-- A device's twenty-five cells. -/
abbrev Cell : Type := Option (Fin 12 ⊕ Fin 12)

/-- The semaphore of a cell. -/
abbrev csem : Cell → SemLoc sig
  | none => .reg barS
  | some (.inl s) => .dma (sendS s)
  | some (.inr s) => .dma (recvS s)
/-- A cell of a device. -/
abbrev kcell (ck : Dev nD × Cell) : GSem nD τ sig := ((ck.1 : Thread nD τ), csem ck.2)

/-- Equal semaphore places are of equal semaphores. -/
theorem dma_inj {q q' : DmaSem sig} (h : (SemLoc.dma q : SemLoc sig) = .dma q') : q = q' := by injection h
/-- Different cells have different semaphores. -/
theorem csem_injective : Function.Injective csem := by
  intro k k' h
  rcases k with _ | k | k <;> rcases k' with _ | k' | k' <;> first
    | rfl
    | (exact absurd h (by intro h; cases h))
    | (have := congrArg Fin.val (dma_inj h)
       simp only [sendS, recvS] at this
       first | (congr 2; apply Fin.ext; omega) | (exfalso; omega))

/-- What a transfer of 128 rows adds to its cells. -/
def cr128 : ℕ := (((Memref.whole cc0_scratch1).slice (Rect.unit (s := S12x128x512) ![0, 0, 0] S1x128x512.size inb_S12x128x512_S1x128x512_0_0_0) (fun _ => rfl)).squeeze S128x512 squeezes_S1x128x512_S128x512).view.dmaCredit
/-- What a transfer of 64 rows adds to its cells. -/
def cr64 : ℕ := (((Memref.whole cc0_scratch1).slice (Rect.unit (s := S12x128x512) ![2, 0, 0] S1x64x512.size inb_S12x128x512_S1x64x512_2_0_0) (fun _ => rfl)).squeeze S64x512 squeezes_S1x64x512_S64x512).view.dmaCredit
/-- What transfer `s` adds to its cells. -/
def cr (s : Fin 12) : ℕ := if rows s = 128 then cr128 else cr64
/-- A transfer adds something. -/
theorem cr_pos (s : Fin 12) : 0 < cr s := by
  unfold cr; split
  · exact View.dmaCredit_pos _ (by decide)
  · exact View.dmaCredit_pos _ (by decide)

/-! ## The places of the transfer buffers -/

/-- A device's send buffer. -/
abbrev sLoc (c : Dev nD) : Loc nD τ sig := (c : Thread nD τ).loc cc0_scratch0
/-- A device's receive buffer. -/
abbrev rLoc (c : Dev nD) : Loc nD τ sig := (c : Thread nD τ).loc cc0_scratch1

/-- Transfer `s`'s places of device `c`'s send buffer, at contents `f`. -/
def sndPts (c : Dev nD) (s : Fin 12) (f : Buf (Elt F) (sLoc c)) : sProp 𝕄 := sLoc c ↦[slot s]{fullShare} f
/-- Transfer `s`'s places of device `c`'s receive buffer, at contents `f`. -/
def rcvPts (c : Dev nD) (s : Fin 12) (f : Buf (Elt F) (rLoc c)) : sProp 𝕄 := rLoc c ↦[slot s]{fullShare} f
/-- Transfer `s`'s places of the receive buffer at whatever they hold. -/
def rcvAny (c : Dev nD) (s : Fin 12) : sProp 𝕄 := iprop(∃ f, rcvPts c s f)

/-- Places of the send buffer can be handed over through a cell. -/
instance sndPts_storable (c : Dev nD) (s : Fin 12) (f) : BI.Storable (upEmb : UEmb _ 𝕄) (sndPts (F := F) c s f) := by unfold sndPts; infer_instance
/-- So can places of the receive buffer, -/
instance rcvPts_storable (c : Dev nD) (s : Fin 12) (f) : BI.Storable (upEmb : UEmb _ 𝕄) (rcvPts (F := F) c s f) := by unfold rcvPts; infer_instance
/-- at whatever they hold, -/
instance rcvAny_storable (c : Dev nD) (s : Fin 12) : BI.Storable (upEmb : UEmb _ 𝕄) (rcvAny (F := F) c s) := by unfold rcvAny; infer_instance

/-! ## The schedule -/

/-- What partner `k` hands device `c` at the barrier: its places of the transfers `c` makes to it. -/
def barPay (c : Dev nD) (k : Fin 4) : sProp 𝕄 := match k with
  | 0 => iprop(rcvAny (pr 0 c) 0 ∗ rcvAny (pr 3 c) 3 ∗ rcvAny (pr 9 c) 9 ∗ rcvAny (pr 10 c) 10)
  | 1 => iprop(rcvAny (pr 1 c) 1 ∗ rcvAny (pr 2 c) 2 ∗ rcvAny (pr 8 c) 8 ∗ rcvAny (pr 11 c) 11)
  | 2 => iprop(rcvAny (pr 4 c) 4 ∗ rcvAny (pr 5 c) 5)
  | 3 => iprop(rcvAny (pr 6 c) 6 ∗ rcvAny (pr 7 c) 7)

/-- and what is handed over at the barrier. -/
instance barPay_storable (c : Dev nD) (k : Fin 4) : BI.Storable (upEmb : UEmb _ 𝕄) (barPay (F := F) c k) := by
  match k with
  | 0 => unfold barPay; infer_instance
  | 1 => unfold barPay; infer_instance
  | 2 => unfold barPay; infer_instance
  | 3 => unfold barPay; infer_instance

/-- The transfer a semaphore of the send array belongs to. -/
def sendIx (q : DmaSem sig) : Option (Fin 12) := if h : 5 ≤ q.val ∧ q.val < 17 then some ⟨q.val - 5, by omega⟩ else none
/-- The transfer a semaphore of the receive array belongs to. -/
def recvIx (q : DmaSem sig) : Option (Fin 12) := if h : 17 ≤ q.val ∧ q.val < 29 then some ⟨q.val - 17, by omega⟩ else none
/-- The send semaphore of `s` belongs to `s`. -/
theorem sendIx_send (s : Fin 12) : sendIx (sendS s) = some s := by
  unfold sendIx sendS; rw [dif_pos ⟨by simp, by have := s.isLt; show 5 + s.val < 17; omega⟩]; simp
/-- The receive semaphore of `s` belongs to `s`. -/
theorem recvIx_recv (s : Fin 12) : recvIx (recvS s) = some s := by
  unfold recvIx recvS; rw [dif_pos ⟨Nat.le_add_right _ _, by have := s.isLt; show 17 + s.val < 29; omega⟩]; simp
/-- A receive semaphore is no send semaphore. -/
theorem sendIx_recv (s : Fin 12) : sendIx (recvS s) = none := by
  unfold sendIx recvS; rw [dif_neg (by intro h; have := h.2; simp only at this; omega)]
/-- A send semaphore is no receive semaphore. -/
theorem recvIx_send (s : Fin 12) : recvIx (sendS s) = none := by
  unfold recvIx sendS; rw [dif_neg (by have := s.isLt; show ¬(17 ≤ 5 + s.val ∧ _); omega)]

variable (A : Inp F)

/-- The duties of a cell. -/
def duty (sm : SemLoc sig) : Finset (Fin 4) := match sm with
  | .reg q => if q = barS then Finset.univ else ∅
  | .dma q => if (sendIx q).isSome ∨ (recvIx q).isSome then {0} else ∅
/-- What a duty adds. -/
def amt (sm : SemLoc sig) : ℕ := match sm with
  | .reg _ => 1
  | .dma q => match sendIx q with
    | some s => cr s
    | none => match recvIx q with
      | some s => cr s
      | none => 1
/-- What a duty hands over. -/
def pay (c : Dev nD) (sm : SemLoc sig) (k : Fin 4) : sProp 𝕄 := match sm with
  | .reg _ => barPay c k
  | .dma q => match sendIx q with
    | some s => sndPts c s (sent A c)
    | none => match recvIx q with
      | some s => rcvPts c s (sent A (pr s c))
      | none => iprop(emp)

/-- Every duty adds something. -/
theorem amt_pos (sm : SemLoc sig) : 0 < amt sm := by
  unfold amt
  (repeat' split) <;> first | exact Nat.one_pos | exact cr_pos _

/-- What a duty hands over can be handed over through a cell. -/
instance pay_storable (c : Dev nD) (sm : SemLoc sig) (k : Fin 4) : BI.Storable (upEmb : UEmb _ 𝕄) (pay (F := F) A c sm k) := by
  unfold pay
  (repeat' split) <;> infer_instance

/-- One round, round 0. -/
def sched : Rounds.Schedule (GSem nD τ sig) (Fin 4) 𝕄 where
  duties g r := if r = 0 ∧ g.1.2 = .tc then duty g.2 else ∅
  unitless _ := False
  amount g _ _ := amt g.2
  payload g _ k := pay A g.1.1 g.2 k
  amount_pos g _ _ _ := amt_pos g.2

/-- The same, of the schedule. -/
instance sched_payload_storable (g : GSem nD τ sig) (r : ℕ) (k : Fin 4) :
    BI.Storable (upEmb : UEmb _ 𝕄) ((sched (F := F) A).payload g r k) := pay_storable A g.1.1 g.2 k

section Sched
variable (c : Dev nD) (s : Fin 12)

/-- A barrier cell has four duties. -/
theorem duties_bar : (sched A).duties (barCell c) 0 = Finset.univ := by
  dsimp only [sched]; rw [if_pos ⟨rfl, rfl⟩]; dsimp only [duty]; exact if_pos rfl
/-- A send cell has one duty. -/
theorem duties_send : (sched A).duties (sendCell c s) 0 = {0} := by
  dsimp only [sched]; rw [if_pos ⟨rfl, rfl⟩]; dsimp only [duty]; rw [sendIx_send]; exact if_pos (.inl rfl)
/-- A receive cell has one duty. -/
theorem duties_recv : (sched A).duties (recvCell c s) 0 = {0} := by
  dsimp only [sched]; rw [if_pos ⟨rfl, rfl⟩]; dsimp only [duty]; rw [recvIx_recv]; exact if_pos (.inr rfl)
/-- There are no duties after round 0. -/
theorem duties_later (g : GSem nD τ sig) : ∀ r, 1 ≤ r → (sched A).duties g r = ∅ :=
  fun r hr => by dsimp only [sched]; rw [if_neg fun h => by omega]

/-- A barrier duty adds one unit. -/
theorem amount_bar (k : Fin 4) : (sched A).amount (barCell c) 0 k = 1 := rfl
/-- A send duty adds the transfer's credit. -/
theorem amount_send (k : Fin 4) : (sched A).amount (sendCell c s) 0 k = cr s := by
  dsimp only [sched, amt]; rw [sendIx_send]
/-- A receive duty adds the transfer's credit. -/
theorem amount_recv (k : Fin 4) : (sched A).amount (recvCell c s) 0 k = cr s := by
  dsimp only [sched, amt]; rw [sendIx_recv, recvIx_recv]

/-- A barrier cell gets four units. -/
theorem expect_bar : (sched A).expect (barCell c) 0 = 4 := by
  unfold Schedule.expect Schedule.amountOf
  rw [duties_bar, Finset.sum_congr rfl fun d _ => amount_bar A c d, Finset.sum_const, Finset.card_univ, Fintype.card_fin, smul_eq_mul]
/-- A send cell gets the transfer's credit. -/
theorem expect_send : (sched A).expect (sendCell c s) 0 = cr s := by
  unfold Schedule.expect Schedule.amountOf; rw [duties_send, Finset.sum_singleton, amount_send]
/-- A receive cell gets the transfer's credit. -/
theorem expect_recv : (sched A).expect (recvCell c s) 0 = cr s := by
  unfold Schedule.expect Schedule.amountOf; rw [duties_recv, Finset.sum_singleton, amount_recv]

/-- A barrier duty hands over the partner's places. -/
theorem payload_bar (k : Fin 4) : (sched A).payload (barCell c) 0 k = barPay c k := rfl
/-- A send duty gives the places of the send buffer back. -/
theorem payload_send (k : Fin 4) : (sched A).payload (sendCell c s) 0 k = sndPts c s (sent A c) := by
  dsimp only [sched, pay]; rw [sendIx_send]
/-- A receive duty hands over the places with what the partner sent. -/
theorem payload_recv (k : Fin 4) : (sched A).payload (recvCell c s) 0 k = rcvPts c s (sent A (pr s c)) := by
  dsimp only [sched, pay]; rw [sendIx_recv, recvIx_recv]

/-- All a device is handed at the barrier: its partners' places. -/
theorem rest_bar : bigSep ((sched A).duties (barCell c) 0 \ ∅) (fun k => (sched A).payload (barCell c) 0 k)
    = iprop(barPay c 0 ∗ barPay c 1 ∗ barPay c 2 ∗ barPay c 3) := by
  rw [Finset.sdiff_empty, duties_bar, bigSep_univ_eq_bigSepL [0, 1, 2, 3] (by decide) (by decide)]
  rfl
/-- All a device gets at a send cell: its places of the send buffer. -/
theorem rest_send : bigSep ((sched A).duties (sendCell c s) 0 \ ∅) (fun k => (sched A).payload (sendCell c s) 0 k) = sndPts c s (sent A c) := by
  rw [Finset.sdiff_empty, duties_send, bigSep_singleton, payload_send]
/-- All a device gets at a receive cell: its places with what the partner sent. -/
theorem rest_recv : bigSep ((sched A).duties (recvCell c s) 0 \ ∅) (fun k => (sched A).payload (recvCell c s) 0 k) = rcvPts c s (sent A (pr s c)) := by
  rw [Finset.sdiff_empty, duties_recv, bigSep_singleton, payload_recv]

end Sched

/-! ## What a device owes, and the levels -/

/-- What a device owes the receive cells it has yet to send to, from transfer `n` on. -/
def owedR (c : Dev nD) (n : ℕ) : CellTallies nD τ sig Unit :=
  ∑ s ∈ Finset.univ.filter (fun s : Fin 12 => n ≤ s.val), tallyAt (recvCell (pr s c) s) () (cr s)
/-- With the barrier units of the partners from `k` on. -/
def owedB (c : Dev nD) (k : ℕ) : CellTallies nD τ sig Unit :=
  owedR c 0 + ∑ i ∈ Finset.univ.filter (fun i : Fin 4 => k ≤ i.val), tallyAt (barCell (peer i c)) () 1
/-- All that a device owes at the launch. -/
def O₀ (c : Dev nD) : CellTallies nD τ sig Unit := owedB c 0

/-- The numbers from `s` on are `s` and those after it. -/
theorem filter_succ {n : ℕ} (s : Fin n) :
    (Finset.univ.filter fun t : Fin n => s.val ≤ t.val) = insert s (Finset.univ.filter fun t : Fin n => s.val + 1 ≤ t.val) := by
  ext t; simp only [Finset.mem_filter, Finset.mem_univ, true_and, Finset.mem_insert]
  constructor
  · intro h; rcases Nat.lt_or_ge s.val t.val with h' | h'
    · exact .inr h'
    · exact .inl (Fin.ext (by omega))
  · rintro (rfl | h)
    · exact le_refl _
    · omega
/-- What is owed from transfer `s` on is what is owed after it, and its credit. -/
theorem owedR_succ (c : Dev nD) (s : Fin 12) : owedR c s.val = owedR c (s.val + 1) + tallyAt (recvCell (pr s c) s) () (cr s) := by
  unfold owedR; rw [filter_succ, Finset.sum_insert (by simp), add_comm]
/-- After the last transfer nothing is owed. -/
theorem owedR_last (c : Dev nD) : owedR c 12 = 0 := by
  unfold owedR; rw [Finset.filter_false_of_mem (fun s _ => by have := s.isLt; omega), Finset.sum_empty]
/-- What is owed from partner `k` on is what is owed after it, and its unit. -/
theorem owedB_succ (c : Dev nD) (k : Fin 4) : owedB c k.val = owedB c (k.val + 1) + tallyAt (barCell (peer k c)) () 1 := by
  unfold owedB; rw [filter_succ, Finset.sum_insert (by simp), add_comm (tallyAt _ _ _), add_assoc]
/-- After the last signal only the transfers are owed. -/
theorem owedB_last (c : Dev nD) : owedB c 4 = owedR c 0 := by
  unfold owedB; rw [Finset.filter_false_of_mem (fun s _ => by have := s.isLt; omega), Finset.sum_empty, add_zero]

/-- The levels a cell has: one on the threads that run the kernel, none on others. -/
def L (g : GSem nD τ sig) : Finset Unit := if g.1.2 = .tc then {()} else ∅
/-- Barrier cells at 1, the receive cells of transfer `s` at `s + 2`, everything else at 0. -/
def lv (g : GSem nD τ sig) (_ : Unit) : ℕ := match g.2 with
  | .reg _ => 1
  | .dma q => match recvIx q with
    | some s => s.val + 2
    | none => 0

/-- A cell of another thread has no level. -/
theorem L_of_ne (g : GSem nD τ sig) (h : g.1.2 ≠ .tc) : L g = ∅ := if_neg h
/-- A device's cell has its one level. -/
theorem L_tc (c : Dev nD) (sm : SemLoc sig) : L ((c : Thread nD τ), sm) = {()} := if_pos rfl

/-- A cell owed anything from transfer `n` on is the receive cell of such a transfer. -/
theorem owedR_pos {c : Dev nD} {n : ℕ} {g : GSem nD τ sig} {u : Unit} (h : 0 < owedR c n g u) :
    ∃ s : Fin 12, n ≤ s.val ∧ g = recvCell (pr s c) s := by
  unfold owedR at h
  rw [Finset.sum_apply, Finsupp.finset_sum_apply] at h
  obtain ⟨s, hs, hp⟩ := Finset.exists_ne_zero_of_sum_ne_zero (Nat.pos_iff_ne_zero.mp h)
  refine ⟨s, (Finset.mem_filter.mp hs).2, ?_⟩
  by_contra hn
  rw [tallyAt_apply, if_neg (fun h' => hn h'.1)] at hp
  exact hp rfl
/-- A cell owed anything at the barrier is a receive cell or a barrier cell of a partner. -/
theorem owedB_pos {c : Dev nD} {k : ℕ} {g : GSem nD τ sig} {u : Unit} (h : 0 < owedB c k g u) :
    (∃ s : Fin 12, g = recvCell (pr s c) s) ∨ ∃ i : Fin 4, g = barCell (peer i c) := by
  unfold owedB at h
  rw [Pi.add_apply, Finsupp.add_apply] at h
  rcases Nat.eq_zero_or_pos (owedR c 0 g u) with h0 | h0
  · rw [h0, Nat.zero_add, Finset.sum_apply, Finsupp.finset_sum_apply] at h
    obtain ⟨i, hi, hp⟩ := Finset.exists_ne_zero_of_sum_ne_zero (Nat.pos_iff_ne_zero.mp h)
    refine .inr ⟨i, ?_⟩
    by_contra hn
    rw [tallyAt_apply, if_neg (fun h' => hn h'.1)] at hp
    exact hp rfl
  · obtain ⟨s, -, hs⟩ := owedR_pos h0
    exact .inl ⟨s, hs⟩

/-- The receive cell of transfer `s` is at level `s + 2`. -/
theorem lv_recv (c : Dev nD) (s : Fin 12) (u : Unit) : lv (recvCell c s) u = s.val + 2 := by dsimp only [lv]; rw [recvIx_recv]
/-- Send cells are at level 0. -/
theorem lv_send (c : Dev nD) (s : Fin 12) (u : Unit) : lv (sendCell c s) u = 0 := by dsimp only [lv]; rw [recvIx_send]

/-- A device owing only the receive cells of transfers from `n` on may wait on a semaphore below their level. -/
theorem mayWait_R (c : Dev nD) (sm : SemLoc sig) (n : ℕ) (h : lv ((c : Thread nD τ), sm) () < n + 2) :
    (levAts L lv : sProp 𝕄) ⊢ MayWait (c : Thread nD τ) sm () (owedR c n) :=
  MayOwe.of_cut (L := L) (lev := lv) (n + 1) (fun p hp => by rw [Finset.mem_singleton.mp hp, L_tc]; exact Finset.mem_singleton_self _)
    (fun g u hg => by obtain ⟨s, -, rfl⟩ := owedR_pos hg; exact Finset.mem_singleton_self _)
    (fun p hp => by rw [Finset.mem_singleton.mp hp]; show lv ((c : Thread nD τ), sm) () ≤ n + 1; omega)
    (fun g u hg => by obtain ⟨s, hs, rfl⟩ := owedR_pos hg; rw [lv_recv]; omega)

/-- A staging semaphore is below everything. -/
theorem mayWait_stage (c : Dev nD) (q : DmaSem sig) (hq : recvIx q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨s, rfl⟩ | ⟨i, rfl⟩ <;> exact Finset.mem_singleton_self _)
      (fun p hp => by rw [Finset.mem_singleton.mp hp]; dsimp only [lv]; rw [hq])
      (fun g u hg => by
        rcases owedB_pos hg with ⟨s, rfl⟩ | ⟨i, rfl⟩
        · rw [lv_recv]; omega
        · dsimp only [lv]; omega)
  · rw [MayWait_zero]; iintro -; iempintro

end Cert.KI

end
-- ==== Proof.KI.Ops.lean ====
/- One operation at a time: what a signal, a transfer and the two waits of a transfer take and give back. -/
module

public import proofs.«01_k».proof.Proof.KI.Protocol

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No measures: the program has no unbounded loop. -/
abbrev 𝒱₀ : Variants := Variants.none

/-- The send buffer. -/
abbrev sM : Memref sig .tc .vmem S12x128x512 .bf16 := Memref.whole cc0_scratch0
/-- The receive buffer. -/
abbrev rM : Memref sig .tc .vmem S12x128x512 .bf16 := Memref.whole cc0_scratch1

variable (A : Inp F)

/-! ## What every device may use -/

/-- Every cell's invariant, and that it has reached round 0. -/
def records (K : Dev nD × Cell → ℕ) : sProp 𝕄 :=
  iprop((bigSep Finset.univ fun ck : Dev nD × Cell => cellInv ER (sched A) (K ck) (kcell ck))
    ∗ bigSep Finset.univ fun ck : Dev nD × Cell => reached ER (kcell ck) 0)
/-- The records may be used again and again. -/
instance records_persistent (K : Dev nD × Cell → ℕ) : BI.Persistent (records A K) := by unfold records; infer_instance

/-- With the levels. -/
def facts (K : Dev nD × Cell → ℕ) : sProp 𝕄 := iprop(records A K ∗ levAts L lv)
/-- So may the facts. -/
instance facts_persistent (K : Dev nD × Cell → ℕ) : BI.Persistent (facts A K) := by unfold facts; infer_instance

variable (K : Dev nD × Cell → ℕ)

/-- From all cells' invariants, one cell's. -/
theorem inv_at (ck : Dev nD × Cell) :
    (bigSep Finset.univ fun ck : Dev nD × Cell => (cellInv ER (sched A) (K ck) (kcell ck) : sProp 𝕄)) ⊢ cellInv ER (sched A) (K ck) (kcell ck) :=
  bigSep_elim (Finset.mem_univ ck)
/-- The facts hold each cell's invariant. -/
theorem facts_inv (ck : Dev nD × Cell) : facts A K ⊢ cellInv ER (sched A) (K ck) (kcell ck) := by
  unfold facts records; iintro ⟨⟨#HI, -⟩, -⟩; iapply (inv_at A K ck); iexact HI
/-- From all cells having reached round 0, one cell having reached it. -/
theorem reached_at (ck : Dev nD × Cell) :
    (bigSep Finset.univ fun ck : Dev nD × Cell => (reached ER (kcell ck) 0 : sProp 𝕄)) ⊢ reached ER (kcell ck) 0 :=
  bigSep_elim (Finset.mem_univ ck)
/-- The facts say that each cell has reached round 0. -/
theorem facts_reached (ck : Dev nD × Cell) : facts A K ⊢ reached ER (kcell ck) 0 := by
  unfold facts records; iintro ⟨⟨-, #HR⟩, -⟩
  iapply (reached_at (F := F) ck); iexact HR
/-- The facts hold the levels. -/
theorem facts_lev : facts A K ⊢ levAts L lv := by unfold facts; iintro ⟨-, #H⟩; iexact H
set_option maxRecDepth 8000 in
/-- By the levels a device that owes transfers from `n` on may wait below them. -/
theorem facts_mayWait (c : Dev nD) (sm : SemLoc sig) (n : ℕ) (h : lv ((c : Thread nD τ), sm) () < n + 2) :
    facts A K ⊢ MayWait (c : Thread nD τ) sm () (owedR c n) := (facts_lev A K).trans (mayWait_R c sm n h)

/-! ## What a device holds -/

/-- What the device still owes: the receive cells from transfer `n` on, whatever it has waited for. -/
def owing (c : Dev nD) (n : ℕ) : sProp 𝕄 := iprop(∃ W, owes (c : Thread nD τ) (owedR c n) W)
/-- The same before the barrier, with the barrier units from partner `k` on. -/
def owingB (c : Dev nD) (k : ℕ) : sProp 𝕄 := iprop(∃ W, owes (c : Thread nD τ) (owedB c k) W)
/-- After the four signals a device owes only its transfers. -/
theorem owingB_last (c : Dev nD) : owingB (F := F) c 4 = owing c 0 := by unfold owingB owing; rw [owedB_last]

/-- A transfer's duties at its send cell and at the partner's receive cell. -/
def tok (c : Dev nD) (s : Fin 12) : sProp 𝕄 :=
  iprop(dutyTok ER (sendCell c s) 0 0 ∗ dutyTok ER (recvCell (pr s c) s) 0 0)
/-- A transfer's duties with the partner's places it writes to. -/
def ready (c : Dev nD) (s : Fin 12) : sProp 𝕄 :=
  iprop(tok c s ∗ rcvAny (pr s c) s)
/-- A transfer under way. -/
def flying (c : Dev nD) (s : Fin 12) : sProp 𝕄 := cred (tallyAt (sendCell c s) () (cr s))
/-- The send cell of a transfer, not yet waited on. -/
def atS (c : Dev nD) (s : Fin 12) : sProp 𝕄 := atPos ER (sendCell c s) 0 ∅ 0
/-- A transfer to be received. -/
def coming (c : Dev nD) (s : Fin 12) : sProp 𝕄 :=
  iprop(cred (tallyAt (recvCell c s) () (cr s)) ∗ atPos ER (recvCell c s) 0 ∅ 0)
/-- Sent, and the places of the send buffer back. -/
def sentDone (c : Dev nD) (s : Fin 12) : sProp 𝕄 := iprop(sndPts c s (sent A c) ∗ semVal (sendCell c s) 0)
/-- Received: the places hold what the partner sent, and the receive cell is back at zero. -/
def rcvDone (c : Dev nD) (s : Fin 12) : sProp 𝕄 := iprop(rcvPts c s (sent A (pr s c)) ∗ semVal (recvCell c s) 0)

/-! ## The barrier -/

/-- What a device hands its partner `k`. -/
def handed (c : Dev nD) (k : Fin 4) : sProp 𝕄 := barPay (peer k c) k

/-- The partner along `x` is handed the places of transfers 0, 3, 9 and 10. -/
theorem handed0 (c : Dev nD) : handed (F := F) c 0 = iprop(rcvAny c 0 ∗ rcvAny c 3 ∗ rcvAny c 9 ∗ rcvAny c 10) := by
  have h (s : Fin 12) (hs : dir s = 0) : pr s (peer 0 c) = c := by unfold pr; rw [hs, peer_peer]
  unfold handed barPay; rw [h 0 rfl, h 3 rfl, h 9 rfl, h 10 rfl]
/-- The partner along `y` is handed the places of transfers 1, 2, 8 and 11. -/
theorem handed1 (c : Dev nD) : handed (F := F) c 1 = iprop(rcvAny c 1 ∗ rcvAny c 2 ∗ rcvAny c 8 ∗ rcvAny c 11) := by
  have h (s : Fin 12) (hs : dir s = 1) : pr s (peer 1 c) = c := by unfold pr; rw [hs, peer_peer]
  unfold handed barPay; rw [h 1 rfl, h 2 rfl, h 8 rfl, h 11 rfl]
/-- The first partner across planes is handed the places of transfers 4 and 5. -/
theorem handed2 (c : Dev nD) : handed (F := F) c 2 = iprop(rcvAny c 4 ∗ rcvAny c 5) := by
  have h (s : Fin 12) (hs : dir s = 2) : pr s (peer 2 c) = c := by unfold pr; rw [hs, peer_peer]
  unfold handed barPay; rw [h 4 rfl, h 5 rfl]
/-- The second is handed the places of transfers 6 and 7. -/
theorem handed3 (c : Dev nD) : handed (F := F) c 3 = iprop(rcvAny c 6 ∗ rcvAny c 7) := by
  have h (s : Fin 12) (hs : dir s = 3) : pr s (peer 3 c) = c := by unfold pr; rw [hs, peer_peer]
  unfold handed barPay; rw [h 6 rfl, h 7 rfl]

/-- A signal to partner `i`'s barrier cell. -/
theorem wp_signal_bar (c n : Dev nD) (i : Fin 4) (hn : n = peer i c) {α : Type} {Q : α → sProp 𝕄} {k : PUnit → Prog (TpuEff nD τ sig (Elt F) Λ₀ .tc) α} :
    iprop(facts A K ∗ owingB c i.val ∗ dutyTok ER (barCell (peer i c)) 0 i ∗ handed c i)
      ⊢ iprop((owingB c (i.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold owingB handed
  iintro ⟨#Hf, ⟨%W, HO⟩, Ht, Hp⟩ Hk
  iapply (Rounds.wp_signal 𝒱₀ ER (sched A) (c : Thread nD τ) none (dst := (peer i c : Thread nD τ)) (κ := K (peer i c, none))
      (d := i) (by rw [duties_bar]; exact Finset.mem_univ _) (amount_bar A (peer i c) i) () (owedB c (i.val + 1)) (owedB_succ c i))
    $$ [HO Ht Hp]
  · isplitr; · iapply (facts_inv A K (peer i c, none)); iexact Hf
    isplitl [HO]; · iexact HO
    isplitl [Ht]; · iexact Ht
    isplitl [Hp]; · rw [payload_bar]; iexact Hp
    iapply (facts_reached A K (peer i c, none)); iexact Hf
  iintro HO
  iapply Hk; iexists W; iexact HO

/-- The wait for the four partners: their places come with it, and the cell closes. -/
theorem wp_wait_bar (c : Dev nD) {α : Type} {Q : α → sProp 𝕄} {k : PUnit → Prog (TpuEff nD τ sig (Elt F) Λ₀ .tc) α} :
    iprop(facts A K ∗ owing c 0 ∗ cred (tallyAt (barCell c) () 4) ∗ atPos ER (barCell c) 0 ∅ 0)
      ⊢ iprop((owing c 0 ∗ (barPay c 0 ∗ barPay c 1 ∗ barPay c 2 ∗ barPay c 3) ∗ semVal (barCell c) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 4) k) Q) := by
  unfold owing
  iintro ⟨#Hf, ⟨%W, HO⟩, Hc, Hat⟩ Hk
  iapply (Rounds.wp_wait_rest_token 𝒱₀ ER (sched A) (c : Thread nD τ) none (κ := K (c, none))
      (wpE_semWait_eq 𝒱₀ (c : Thread nD τ) none Set.univ) (Set.mem_univ _) () (O := owedR c 0) (W := W) (R := 0) (m := 0) (T := ∅)
      (by rw [expect_bar])) $$ [Hc HO Hat]
  · isplitr; · iapply (facts_inv A K (c, none)); iexact Hf
    isplitl [Hc]; · iexact Hc
    isplitl [HO]; · iexact HO
    isplitr; · iapply (facts_mayWait A K c (.reg barS) 0 (by show 1 < 0 + 2; omega)); iexact Hf
    iexact Hat
  iintro ⟨HO, Hat, -, Hpay⟩
  ihave Hp := (Entails.of_eq (rest_bar A c)) $$ Hpay
  imod (Rounds.cell_close ER (sched A) (Set.mem_univ (K (c, none))) (fun h => h) (R := 0 + 1) (duties_later A (barCell c))) $$ [Hat] with Hz
  · isplitr; · iapply (facts_inv A K (c, none)); iexact Hf
    iexact Hat
  iapply Hk
  isplitl [HO]; · iexists _; iexact HO
  isplitl [Hp]; · iexact Hp
  iexact Hz

/-! ## A transfer -/

section Transfer
variable {off size : Fin 3 → ℕ} (inb : ∀ a, off a + size a ≤ S12x128x512.size a) {Sq : Shape}
  (sq : (Rect.unit (s := S12x128x512) off size inb).shape.Squeezes Sq)

/-- The slice of the send buffer a transfer names. -/
abbrev sndV : Memref sig .tc .vmem Sq .bf16 := (sM.slice (Rect.unit (s := S12x128x512) off size inb) (fun _ => rfl)).squeeze Sq sq
/-- The slice of the receive buffer a transfer names. -/
abbrev rcvV : Memref sig .tc .vmem Sq .bf16 := (rM.slice (Rect.unit (s := S12x128x512) off size inb) (fun _ => rfl)).squeeze Sq sq

omit [FloatOps F] in
/-- The places of the slice of the send buffer are those of its rectangle. -/
theorem sndV_set : (sndV inb sq).view.set = (Rect.unit (s := S12x128x512) off size inb).set :=
  (View.set_reshape _ _).trans (View.set_slice_whole _ _)
omit [FloatOps F] in
/-- So are those of the slice of the receive buffer. -/
theorem rcvV_set : (rcvV inb sq).view.set = (Rect.unit (s := S12x128x512) off size inb).set :=
  (View.set_reshape _ _).trans (View.set_slice_whole _ _)

/-- A transfer leaves on the places it writes what the source has there. -/
theorem transfer_same (fd : Vec F S12x128x512 .bf16) (fs : Vec F S12x128x512 .bf16) (i : S12x128x512.Idx)
    (hi : i ∈ (rcvV inb sq).view.set) :
    (rcvV inb sq).view.write (Elt F) fd ((sndV inb sq).view.read (Elt F) fs) Finset.univ i = fs i := by
  obtain ⟨x, -, rfl⟩ := Finset.mem_map.mp hi
  exact View.write_emb_of_mem (v := (rcvV inb sq).view) fd _ (Finset.mem_univ x)

variable (s : Fin 12) (h0 : off 0 = s.val) (h1 : off 1 = 0) (h2 : off 2 = 0) (s0 : size 0 = 1) (s1 : size 1 = rows s) (s2 : size 2 = 512)

include h0 h1 h2 s0 s1 s2 in
/-- Transfer `s` starts: its places of the send buffer hold what it is to carry. -/
theorem wp_send_slot (c n : Dev nD) (hn : n = pr s c) (hcr : (rcvV inb sq).view.dmaCredit = cr s)
    {qs qr : DmaSem sig} (hqs : qs = sendS s) (hqr : qr = recvS s)
    {hsc : (rcvV inb sq : Memref sig (Dev.tc n : Thread nD τ).2.kind .vmem Sq .bf16).view.ref.isScScratch = false}
    {hsrc : (sndV inb sq).view.WordExact} {hdst : (rcvV inb sq).view.WordExact}
    {hsem : DmaTarget.Typed .vmem (.dma qr) (.remote (Dev.tc n : Thread nD τ) (rcvV inb sq) (.dma qs) hsc)}
    {α : Type} {Q : α → sProp 𝕄} {k : PUnit → Prog (TpuEff nD τ sig (Elt F) Λ₀ .tc) α} :
    iprop(facts A K ∗ owing c s.val ∗ ready c s ∗ sndPts c s (sent A c))
      ⊢ iprop((owing c (s.val + 1) ∗ flying c s -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (sndV inb sq) (.remote (Dev.tc n : Thread nD τ) (rcvV inb sq) (.dma qs) hsc) (.dma qr) hsrc hdst hsem) k) Q) := by
  subst hn hqs hqr
  have eS : (sndV inb sq).view.set = slot s := (sndV_set inb sq).trans (slot_rect s inb h0 h1 h2 s0 s1 s2)
  have eR : (rcvV inb sq).view.set = slot s := (rcvV_set inb sq).trans (slot_rect s inb h0 h1 h2 s0 s1 s2)
  unfold owing ready tok rcvAny flying
  iintro ⟨#Hf, ⟨%W, HO⟩, ⟨⟨Ht1, Ht2⟩, ⟨%fd, Hd⟩⟩, Hs⟩ Hk
  iapply (Rounds.wp_send_pointsTo 𝒱₀ ER (sched A) (c : Thread nD τ) none (κ₁ := K (c, some (.inl s))) (κ₂ := K (pr s c, some (.inr s)))
    (r₁ := 0) (r₂ := 0) (d₁ := 0) (d₂ := 0) (fs := sent A c) (fd := fd) (q := fullShare)
    (by rw [duties_send]; exact Finset.mem_singleton_self _) (by rw [duties_recv]; exact Finset.mem_singleton_self _)
    () () (cr s) (show (rcvV inb sq).view.amount (.dma (recvS s)) = cr s from hcr) (amount_send A c s 0) (amount_recv A (pr s c) s 0) (owedR c (s.val + 1)) (owedR_succ c s) (W := W)
    (by rw [payload_send, eS]; exact BI.Entails.refl _)
    (by
      rw [payload_recv, show pr s (pr s c) = c from peer_peer _ _]
      unfold rcvPts
      rw [← eR]
      exact Entails.of_eq (pointsTo_congr fun i hi => transfer_same inb sq fd (sent A c) i hi))) $$ [HO Ht1 Ht2 Hd Hs]
  · isplitr; · iapply (facts_inv A K (c, some (.inl s))); iexact Hf
    isplitr; · iapply (facts_inv A K (pr s c, some (.inr s))); iexact Hf
    isplitl [Hs]; · rw [eS]; unfold sndPts; iexact Hs
    isplitl [Hd]; · rw [eR]; unfold rcvPts; iexact Hd
    isplitl [HO]; · iexact HO
    isplitl [Ht1]; · iexact Ht1
    isplitr; · iapply (facts_reached A K (c, some (.inl s))); iexact Hf
    isplitl [Ht2]; · iexact Ht2
    iapply (facts_reached A K (pr s c, some (.inr s))); iexact Hf
  iintro ⟨Hc, HO⟩
  iapply Hk
  isplitl [HO]; · iexists W; iexact HO
  iexact Hc

end Transfer

/-- A wait on transfer `s`'s send cell: its places of the send buffer back, and the cell closes. -/
theorem wp_wait_send (c : Dev nD) (s : Fin 12) (n : ℕ) {sp sp' : Space} {s' s'' : Shape} {e e' : EltTy} {q : DmaSem sig} (hq : q = sendS s)
    {src : Memref sig .tc sp' s'' e'} {dst : Memref sig .tc sp s' e} (hcr : dst.view.dmaCredit = cr s)
    {hsrc : src.view.WordExact} {hdst : dst.view.WordExact} {α : Type} {Q : α → sProp 𝕄} {k : PUnit → Prog (TpuEff nD τ sig (Elt F) Λ₀ .tc) α} :
    iprop(facts A K ∗ owing c n ∗ flying c s ∗ atS c s)
      ⊢ iprop((owing c n ∗ sentDone A c s -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  unfold owing flying atS sentDone
  iintro ⟨#Hf, ⟨%W, HO⟩, Hc, Hat⟩ Hk
  iapply (Rounds.wp_wait_rest_token 𝒱₀ ER (sched A) (c : Thread nD τ) none (κ := K (c, some (.inl s)))
      (wpE_waitDma2_eq 𝒱₀ (c : Thread nD τ) none Set.univ) (Set.mem_univ _) () (O := owedR c n) (W := W) (R := 0) (m := 0) (T := ∅)
      (by rw [hcr, Nat.zero_add]; exact (expect_send A c s).symm)) $$ [Hc HO Hat]
  · isplitr; · iapply (facts_inv A K (c, some (.inl s))); iexact Hf
    isplitl [Hc]; · rw [hcr]; iexact Hc
    isplitl [HO]; · iexact HO
    isplitr; · iapply (facts_mayWait A K c (.dma (sendS s)) n (by rw [show lv ((c : Thread nD τ), .dma (sendS s)) () = 0 from lv_send c s ()]; omega)); iexact Hf
    iexact Hat
  iintro ⟨HO, Hat, -, Hpay⟩
  ihave Hp := (Entails.of_eq (rest_send A c s)) $$ Hpay
  imod (Rounds.cell_close ER (sched A) (Set.mem_univ (K (c, some (.inl s)))) (fun h => h) (R := 0 + 1) (duties_later A (sendCell c s))) $$ [Hat] with Hz
  · isplitr; · iapply (facts_inv A K (c, some (.inl s))); iexact Hf
    iexact Hat
  iapply Hk
  isplitl [HO]; · iexists _; iexact HO
  isplitl [Hp]; · iexact Hp
  iexact Hz

/-- A wait on transfer `s`'s receive cell: its places of the receive buffer, holding what the partner sent. -/
theorem wp_wait_recv (c : Dev nD) (s : Fin 12) (n : ℕ) (hn : s.val < n) {sp sp' : Space} {s' s'' : Shape} {e e' : EltTy} {q : DmaSem sig} (hq : q = recvS s)
    {src : Memref sig .tc sp' s'' e'} {dst : Memref sig .tc sp s' e} (hcr : dst.view.dmaCredit = cr s)
    {hsrc : src.view.WordExact} {hdst : dst.view.WordExact} {α : Type} {Q : α → sProp 𝕄} {k : PUnit → Prog (TpuEff nD τ sig (Elt F) Λ₀ .tc) α} :
    iprop(facts A K ∗ owing c n ∗ coming c s)
      ⊢ iprop((owing c n ∗ rcvDone A c s -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  unfold owing coming rcvDone
  iintro ⟨#Hf, ⟨%W, HO⟩, Hc, Hat⟩ Hk
  iapply (Rounds.wp_wait_rest_token 𝒱₀ ER (sched A) (c : Thread nD τ) none (κ := K (c, some (.inr s)))
      (wpE_waitDma2_eq 𝒱₀ (c : Thread nD τ) none Set.univ) (Set.mem_univ _) () (O := owedR c n) (W := W) (R := 0) (m := 0) (T := ∅)
      (by rw [hcr, Nat.zero_add]; exact (expect_recv A c s).symm)) $$ [Hc HO Hat]
  · isplitr; · iapply (facts_inv A K (c, some (.inr s))); iexact Hf
    isplitl [Hc]; · rw [hcr]; iexact Hc
    isplitl [HO]; · iexact HO
    isplitr; · iapply (facts_mayWait A K c (.dma (recvS s)) n (by rw [show lv ((c : Thread nD τ), .dma (recvS s)) () = s.val + 2 from lv_recv c s ()]; omega)); iexact Hf
    iexact Hat
  iintro ⟨HO, Hat, -, Hpay⟩
  ihave Hp := (Entails.of_eq (rest_recv A c s)) $$ Hpay
  imod (Rounds.cell_close ER (sched A) (Set.mem_univ (K (c, some (.inr s)))) (fun h => h) (R := 0 + 1) (duties_later A (recvCell c s))) $$ [Hat] with Hz
  · isplitr; · iapply (facts_inv A K (c, some (.inr s))); iexact Hf
    iexact Hat
  iapply Hk
  isplitl [HO]; · iexists _; iexact HO
  isplitl [Hp]; · iexact Hp
  iexact Hz

end Cert.KI

end
-- ==== Proof.KI.Buffers.lean ====
/- The buffers during the run: how full the send buffer is, what the result array holds, and what the loads and stores of
   a step do to them. -/
module

public import proofs.«01_k».proof.Proof.KI.Ops

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The result array. -/
abbrev oM : Memref sig .tc .vmem S512x512 .f32 := Memref.whole cc0_stg4_0
/-- The experts' matrices. -/
abbrev eM : Memref sig .tc .vmem S4x256x512 .f32 := Memref.whole cc0_stg3_0

variable (A : Inp F)

/-! ## What is held -/

/-- The result array with each region at a level. -/
def outPts (c : Dev nD) (κ : Fin 6 → ℕ) : sProp 𝕄 := ((c : Thread nD τ).loc cc0_stg4_0) ↦{fullShare} outAt A c κ
/-- The result array holding the partial result on the rows `P`. -/
def outHas (c : Dev nD) (P : ℕ → Prop) : sProp 𝕄 :=
  iprop(∃ f : Vec F S512x512 .f32, ⌜∀ i : S512x512.Idx, P (i 0).val → f i = part A c (i 0).val (i 1).val⌝
    ∗ (((c : Thread nD τ).loc cc0_stg4_0) ↦{fullShare} f))
/-- Transfer `s`'s places of the send buffer holding what it carries on the rows `P`. -/
def sndHas (c : Dev nD) (s : Fin 12) (P : ℕ → Prop) : sProp 𝕄 :=
  iprop(∃ f : Vec F S12x128x512 .bf16, ⌜∀ i ∈ slot s, P (i 1).val → f i = sent A c i⌝ ∗ sndPts c s f)
/-- The experts' matrices. -/
def ePts (c : Dev nD) : sProp 𝕄 := ((c : Thread nD τ).loc cc0_stg3_0) ↦{fullShare} A.e c

/-- A result array with the partial result on every row has every region at level 0. -/
theorem outHas_all (c : Dev nD) {P : ℕ → Prop} (hP : ∀ r < 512, P r) : outHas A c P ⊢ outPts A c ![0, 0, 0, 0, 0, 0] := by
  unfold outHas outPts
  iintro ⟨%f, %hf, H⟩
  rw [show f = outAt A c ![0, 0, 0, 0, 0, 0] from funext fun i => by
    rw [hf i (hP _ (i 0).isLt)]
    unfold outAt
    rw [show (![0, 0, 0, 0, 0, 0] : Fin 6 → ℕ) (reg c (i 0).val) = 0 from by
      generalize reg c (i 0).val = ρ; revert ρ; decide]
    rfl]
  iexact H
/-- A transfer's places at any contents hold what it carries on no row. -/
theorem sndHas_none (c : Dev nD) (s : Fin 12) (f : Vec F S12x128x512 .bf16) : sndPts c s f ⊢ sndHas A c s (fun _ => False) := by
  unfold sndHas
  iintro H; iexists f
  isplitr; · ipureintro; exact fun i _ h => h.elim
  iexact H
/-- A transfer's places that hold what it carries on each of its rows hold all that it carries. -/
theorem sndHas_all (c : Dev nD) (s : Fin 12) {P : ℕ → Prop} (hP : ∀ r < rows s, P r) : sndHas A c s P ⊢ sndPts c s (sent A c) := by
  unfold sndHas sndPts
  iintro ⟨%f, %hf, H⟩
  iapply (Entails.of_eq (pointsTo_congr (fun i hi => hf i hi (hP _ (mem_slot.mp hi).2))))
  iexact H

/-! ## The send buffer -/

section Snd
variable (c : Dev nD) (s : Fin 12) {off size : Fin 3 → ℕ} (inb : ∀ a, off a + size a ≤ S12x128x512.size a)

/-- A load within a transfer's places of the send buffer keeps them. -/
theorem wp_load_snd (h0 : off 0 = s.val) (s0 : size 0 = 1) (s1 : off 1 + size 1 ≤ rows s) {P : ℕ → Prop}
    {hl : (sM : Memref sig .tc .vmem S12x128x512 .bf16).view.LoadsAt (Rect.unit (s := S12x128x512) off size inb).toLoadRect}
    {α : Type} {Q : α → sProp 𝕄} {k : _ → Prog (TpuEff nD τ sig (Elt F) Λ₀ .tc) α} :
    sndHas A c s P ⊢ iprop((∀ v, sndHas A c s P -∗ wp frame (wpE (defs₀ (F := F)) 𝒱₀ (c : Thread nD τ) none) Set.univ (k v) Q)
      -∗ wp frame (wpE (defs₀ (F := F)) 𝒱₀ (c : Thread nD τ) none) Set.univ
          (.op (.load sM (Rect.unit (s := S12x128x512) off size inb).toLoadRect hl) k) Q) := by
  unfold sndHas sndPts
  iintro ⟨%f, %hf, H⟩ Hk
  iapply (wp_load 𝒱₀ (c : Thread nD τ) none Set.univ (m := sM) (by
    intro i hi
    obtain ⟨x, hx, rfl⟩ := Finset.mem_map.mp hi
    exact slot_sub s inb h0 s0 s1 hx)) $$ H
  iintro H
  iapply Hk
  iexists f
  isplitr; · ipureintro; exact hf
  iexact H

/-- A store of rows of what transfer `s` carries. -/
theorem wp_store_snd (o : ℕ) (h0 : off 0 = s.val) (h1 : off 1 = o) (h2 : off 2 = 0) (s0 : size 0 = 1) (s1 : o + size 1 ≤ rows s) (s2 : size 2 = 512)
    {P : ℕ → Prop} (w : (Rect.unit (s := S12x128x512) off size inb).shape.Idx → Elt F .bf16) (hw : ∀ x, w x = sentAt A c s (o + (x 1).val) (x 2).val)
    {hx : ((sM : Memref sig .tc .vmem S12x128x512 .bf16).access (Rect.unit (s := S12x128x512) off size inb)).Stores Finset.univ}
    {hm : (Finset.univ : Finset (Rect.unit (s := S12x128x512) off size inb).shape.Idx) = Finset.univ ∨ ∀ a, (Rect.unit (s := S12x128x512) off size inb).stride a = 1}
    {α : Type} {Q : α → sProp 𝕄} {k : PUnit → Prog (TpuEff nD τ sig (Elt F) Λ₀ .tc) α} :
    sndHas A c s P ⊢ iprop((sndHas A c s (fun r => P r ∨ (o ≤ r ∧ r < o + size 1)) -∗ wp frame (wpE (defs₀ (F := F)) 𝒱₀ (c : Thread nD τ) none) Set.univ (k ⟨⟩) Q)
      -∗ wp frame (wpE (defs₀ (F := F)) 𝒱₀ (c : Thread nD τ) none) Set.univ
          (.op (.store sM (Rect.unit (s := S12x128x512) off size inb) w Finset.univ hx hm) k) Q) := by
  unfold sndHas sndPts
  iintro ⟨%f, %hf, H⟩ Hk
  iapply (wp_store 𝒱₀ (c : Thread nD τ) none Set.univ (m := sM) (r := Rect.unit (s := S12x128x512) off size inb) (Mk := Finset.univ) (by
    rw [show ((sM : Memref sig .tc .vmem S12x128x512 .bf16).access (Rect.unit (s := S12x128x512) off size inb)).setOn Finset.univ
      = (Rect.unit (s := S12x128x512) off size inb).set from View.set_slice_whole _ _]
    exact slot_sub s inb h0 s0 (by omega))) $$ H
  iintro H
  iapply Hk
  iexists _
  isplitr
  rotate_left
  · iexact H
  · ipureintro
    intro i hi hP
    refine snd_write A c s o inb h0 h1 h2 s0 s2 f w hw i (mem_slot.mp hi).1 ?_
    rcases hP with hP | hP
    · exact .inr (hf i hi hP)
    · exact .inl hP

end Snd

/-! ## The receive buffer -/

/-- A load within the places of a transfer that has arrived reads what its partner sent. -/
theorem wp_load_rcv (c : Dev nD) (s : Fin 12) {off size : Fin 3 → ℕ} (inb : ∀ a, off a + size a ≤ S12x128x512.size a)
    (h0 : off 0 = s.val) (s0 : size 0 = 1) (s1 : off 1 + size 1 ≤ rows s)
    {hl : (rM : Memref sig .tc .vmem S12x128x512 .bf16).view.LoadsAt (Rect.unit (s := S12x128x512) off size inb).toLoadRect}
    {α : Type} {Q : α → sProp 𝕄} {k : _ → Prog (TpuEff nD τ sig (Elt F) Λ₀ .tc) α} :
    rcvDone A c s ⊢ iprop((rcvDone A c s -∗ wp frame (wpE (defs₀ (F := F)) 𝒱₀ (c : Thread nD τ) none) Set.univ
          (k ((rM : Memref sig .tc .vmem S12x128x512 .bf16).view.readAt (Elt F) (Rect.unit (s := S12x128x512) off size inb).toLoadRect (sent A (pr s c)))) Q)
      -∗ wp frame (wpE (defs₀ (F := F)) 𝒱₀ (c : Thread nD τ) none) Set.univ
          (.op (.load rM (Rect.unit (s := S12x128x512) off size inb).toLoadRect hl) k) Q) := by
  unfold rcvDone rcvPts
  iintro ⟨H, Hz⟩ Hk
  iapply (wp_load 𝒱₀ (c : Thread nD τ) none Set.univ (m := rM) (by
    intro i hi
    obtain ⟨x, hx, rfl⟩ := Finset.mem_map.mp hi
    exact slot_sub s inb h0 s0 s1 hx)) $$ H
  iintro H
  iapply Hk
  isplitl [H]; · iexact H
  iexact Hz

/-! ## The result array -/

section Out
variable (c : Dev nD) {off size : Fin 2 → ℕ} (inb : ∀ a, off a + size a ≤ S512x512.size a)

/-- A load of the result array reads what it holds. -/
theorem wp_load_out (κ : Fin 6 → ℕ) {hl : (oM : Memref sig .tc .vmem S512x512 .f32).view.LoadsAt (Rect.unit (s := S512x512) off size inb).toLoadRect}
    {α : Type} {Q : α → sProp 𝕄} {k : _ → Prog (TpuEff nD τ sig (Elt F) Λ₀ .tc) α} :
    outPts A c κ ⊢ iprop((outPts A c κ -∗ wp frame (wpE (defs₀ (F := F)) 𝒱₀ (c : Thread nD τ) none) Set.univ
          (k ((oM : Memref sig .tc .vmem S512x512 .f32).view.readAt (Elt F) (Rect.unit (s := S512x512) off size inb).toLoadRect (outAt A c κ))) Q)
      -∗ wp frame (wpE (defs₀ (F := F)) 𝒱₀ (c : Thread nD τ) none) Set.univ
          (.op (.load oM (Rect.unit (s := S512x512) off size inb).toLoadRect hl) k) Q) :=
  wp_load 𝒱₀ (c : Thread nD τ) none Set.univ (m := oM) (Finset.subset_univ _)

/-- A store of a region at a level. -/
theorem wp_store_out (κ : Fin 6 → ℕ) (ρ : Fin 6) (n : ℕ) (h0 : off 0 = rb ρ c) (h1 : off 1 = 0) (hs : size 0 = rl ρ) (hs1 : size 1 = 512)
    (w : (Rect.unit (s := S512x512) off size inb).shape.Idx → Elt F .f32) (hw : ∀ x, w x = val A n c (rb ρ c + (x 0).val) (x 1).val)
    {κ' : Fin 6 → ℕ} (hκ : Function.update κ ρ n = κ')
    {hx : ((oM : Memref sig .tc .vmem S512x512 .f32).access (Rect.unit (s := S512x512) off size inb)).Stores Finset.univ}
    {hm : (Finset.univ : Finset (Rect.unit (s := S512x512) off size inb).shape.Idx) = Finset.univ ∨ ∀ a, (Rect.unit (s := S512x512) off size inb).stride a = 1}
    {α : Type} {Q : α → sProp 𝕄} {k : PUnit → Prog (TpuEff nD τ sig (Elt F) Λ₀ .tc) α} :
    outPts A c κ ⊢ iprop((outPts A c κ' -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S512x512) off size inb) w Finset.univ hx hm) k) Q) := by
  subst hκ
  unfold outPts
  rw [← out_write A c κ ρ n inb h0 h1 hs hs1 w hw]
  exact wp_store 𝒱₀ (c : Thread nD τ) none Set.univ (m := oM) (r := Rect.unit (s := S512x512) off size inb) (Mk := Finset.univ) (Finset.subset_univ _)

/-- A store of rows of the partial result. -/
theorem wp_store_part (o : ℕ) (h0 : off 0 = o) (h1 : off 1 = 0) (hs1 : size 1 = 512) {P : ℕ → Prop}
    (w : (Rect.unit (s := S512x512) off size inb).shape.Idx → Elt F .f32) (hw : ∀ x, w x = part A c (o + (x 0).val) (x 1).val)
    {hx : ((oM : Memref sig .tc .vmem S512x512 .f32).access (Rect.unit (s := S512x512) off size inb)).Stores Finset.univ}
    {hm : (Finset.univ : Finset (Rect.unit (s := S512x512) off size inb).shape.Idx) = Finset.univ ∨ ∀ a, (Rect.unit (s := S512x512) off size inb).stride a = 1}
    {α : Type} {Q : α → sProp 𝕄} {k : PUnit → Prog (TpuEff nD τ sig (Elt F) Λ₀ .tc) α} :
    outHas A c P ⊢ iprop((outHas A c (fun r => P r ∨ (o ≤ r ∧ r < o + size 0)) -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S512x512) off size inb) w Finset.univ hx hm) k) Q) := by
  unfold outHas
  iintro ⟨%f, %hf, H⟩ Hk
  iapply (wp_store 𝒱₀ (c : Thread nD τ) none Set.univ (m := oM) (r := Rect.unit (s := S512x512) off size inb) (Mk := Finset.univ) (Finset.subset_univ _)) $$ H
  iintro H
  iapply Hk
  iexists _
  isplitr
  rotate_left
  · iexact H
  · ipureintro
    intro i hP
    have hi1 : (i 1).val < 512 := (i 1).isLt
    show ((View.whole cc0_stg4_0).slice (Rect.unit (s := S512x512) off size inb)).write (Elt F) f w Finset.univ i = _
    by_cases hin : o ≤ (i 0).val ∧ (i 0).val < o + size 0
    · obtain ⟨x, rfl⟩ : ∃ x, (Rect.unit (s := S512x512) off size inb).emb x = i :=
        ⟨fun a => ⟨(i a).val - off a, by fin_cases a <;> simp <;> omega⟩, funext fun a => Fin.ext (by
          rw [Rect.emb_apply]; fin_cases a <;> simp <;> omega)⟩
      have e0 : ((Rect.unit (s := S512x512) off size inb).emb x 0).val = o + (x 0).val := by
        show off 0 + 1 * (x 0).val = _; rw [h0, Nat.one_mul]
      have e1 : ((Rect.unit (s := S512x512) off size inb).emb x 1).val = (x 1).val := by
        show off 1 + 1 * (x 1).val = _; rw [h1, Nat.one_mul, Nat.zero_add]
      refine (View.write_emb_of_mem (v := (View.whole cc0_stg4_0).slice (Rect.unit (s := S512x512) off size inb)) f w (Finset.mem_univ x)).trans ?_
      rw [e0, e1]
      exact hw x
    · rw [View.write_of_not_mem]
      · exact hf i (hP.resolve_right hin)
      · intro hm
        have hm' : i ∈ (Rect.unit (s := S512x512) off size inb).set := by
          have := hm; rw [show ((View.whole cc0_stg4_0).slice (Rect.unit (s := S512x512) off size inb)).setOn Finset.univ
            = ((View.whole cc0_stg4_0).slice (Rect.unit (s := S512x512) off size inb)).set from rfl, View.set_slice_whole] at this
          exact this
        have := Rect.mem_set_unit.mp hm' 0
        exact hin (by omega)

/-- A load of the result array whose value is not used. -/
theorem wp_load_any {P : ℕ → Prop} {hl : (oM : Memref sig .tc .vmem S512x512 .f32).view.LoadsAt (Rect.unit (s := S512x512) off size inb).toLoadRect}
    {α : Type} {Q : α → sProp 𝕄} {k : _ → Prog (TpuEff nD τ sig (Elt F) Λ₀ .tc) α} :
    outHas A c P ⊢ iprop((∀ v, outHas A c P -∗ wp frame (wpE (defs₀ (F := F)) 𝒱₀ (c : Thread nD τ) none) Set.univ (k v) Q)
      -∗ wp frame (wpE (defs₀ (F := F)) 𝒱₀ (c : Thread nD τ) none) Set.univ
          (.op (.load oM (Rect.unit (s := S512x512) off size inb).toLoadRect hl) k) Q) := by
  unfold outHas
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

end Out

end Cert.KI

end
-- ==== Proof.KI.Values.lean ====
/- What the steps store: the sums they form, and the completed regions they pass on. -/
module

public import proofs.«01_k».proof.Proof.KI.Steps

@[expose] public section

noncomputable section

namespace Cert.KI

open Cert.KernelIdeal Cert.KernelIdeal.Gen
open Idealize.ShloMosaic

variable {F : FTy → Type} [FloatOps F]
variable (A : Inp F) (c : Dev nD)

/-- An index of a matrix is a row and a column. -/
theorem ex2 {m n : ℕ} (x : (⟨2, ![m, n]⟩ : Shape).Idx) : ∃ (r : Fin m) (j : Fin n), x = ix2 r j :=
  ⟨x 0, x 1, by funext a; fin_cases a <;> rfl⟩
/-- An index of a single matrix in a stack is a row and a column. -/
theorem ex3 {m n : ℕ} (x : (⟨3, ![1, m, n]⟩ : Shape).Idx) : ∃ (r : Fin m) (j : Fin n), x = ix3 0 r j :=
  ⟨x 1, x 2, by funext a; fin_cases a <;> first | rfl | exact Subsingleton.elim (α := Fin 1) _ _⟩

/-- Rows `o ...` of transfer `s`'s places belong to region `ρ`, which the transfer completes to the next level. -/
def Joins (s : Fin 12) (ρ : Fin 6) (o : ℕ) : Prop :=
  base s (pr s c) + o = rb ρ c ∧ ∀ r : Fin 64, pt (s.val / 2) (rb ρ c + r.val) = dir s

/-- Transfer 0 brings what the neighbouring quarter lacks. -/
theorem joins0 : Joins c 0 1 (64 - 64 * by' c) := by revert c; unfold Joins; decide +kernel
/-- Transfer 0 brings what the own quarter lacks. -/
theorem joins0' : Joins c 0 0 (64 * by' c) := by revert c; unfold Joins; decide +kernel
/-- Transfer 1 brings what the neighbouring quarter of the last rows lacks. -/
theorem joins1 : Joins c 1 4 (64 - 64 * bx c) := by revert c; unfold Joins; decide +kernel
/-- Transfer 1 brings what the own quarter of the last rows lacks. -/
theorem joins1' : Joins c 1 3 (64 * bx c) := by revert c; unfold Joins; decide +kernel
/-- Transfer 2 brings what the own quarter lacks. -/
theorem joins2 : Joins c 2 0 0 := by revert c; unfold Joins; decide +kernel
/-- Transfer 3 brings what the own quarter of the last rows lacks. -/
theorem joins3 : Joins c 3 3 0 := by revert c; unfold Joins; decide +kernel
/-- Transfer 4 brings what the own quarter lacks. -/
theorem joins4 : Joins c 4 0 0 := by revert c; unfold Joins; decide +kernel
/-- Transfer 5 brings what the own quarter of the last rows lacks. -/
theorem joins5 : Joins c 5 3 0 := by revert c; unfold Joins; decide +kernel
/-- Transfer 6 brings what the own quarter lacks. -/
theorem joins6 : Joins c 6 0 0 := by revert c; unfold Joins; decide +kernel
/-- Transfer 7 brings what the own quarter of the last rows lacks. -/
theorem joins7 : Joins c 7 3 0 := by revert c; unfold Joins; decide +kernel

variable {c}

/-- The sum a step forms is the region at the next level. -/
theorem sum_at {s : Fin 12} {ρ : Fin 6} {o : ℕ} (h : Joins c s ρ o) (hs : s.val < 8) (v : Vec F S64x512 .f32) (w : Vec F S1x64x512 .bf16)
    (hv : ∀ x : S64x512.Idx, v x = val A (s.val / 2) c (rb ρ c + (x 0).val) (x 1).val)
    (hw : ∀ x : S1x64x512.Idx, w x = sentAt A (pr s c) s (o + (x 1).val) (x 2).val) (r : Fin 64) (j : Fin 512) :
    FloatOps.addf (v (ix2 r j)) (widen (w (ix3 0 r j))) = acc A (s.val / 2 + 1) c (rb ρ c + r.val) j.val := by
  rw [hv, hw]
  unfold val; rw [if_pos (by omega)]
  exact acc_join A c s hs _ (h.2 r) (by rw [← h.1]; exact Nat.add_assoc _ _ _ |>.symm)

/-- So is the sum stored in the result array. -/
theorem join28 {s : Fin 12} {ρ : Fin 6} {o : ℕ} (h : Joins c s ρ o) (hs : s.val < 8) (v : Vec F S64x512 .f32) (w : Vec F S1x64x512 .bf16)
    (hv : ∀ x : S64x512.Idx, v x = val A (s.val / 2) c (rb ρ c + (x 0).val) (x 1).val)
    (hw : ∀ x : S1x64x512.Idx, w x = sentAt A (pr s c) s (o + (x 1).val) (x 2).val) (x : S64x512.Idx) :
    k0_pay28 v w x = val A (s.val / 2 + 1) c (rb ρ c + (x 0).val) (x 1).val := by
  obtain ⟨r, j, rfl⟩ := ex2 x
  rw [pay28_at, sum_at A h hs v w hv hw]
  unfold val; rw [if_pos (by omega)]; rfl

/-- The rounded sum is what the next transfer carries. -/
theorem join29 {s : Fin 12} {ρ : Fin 6} {o : ℕ} (h : Joins c s ρ o) (hs : s.val < 8) (v : Vec F S64x512 .f32) (w : Vec F S1x64x512 .bf16)
    (hv : ∀ x : S64x512.Idx, v x = val A (s.val / 2) c (rb ρ c + (x 0).val) (x 1).val)
    (hw : ∀ x : S1x64x512.Idx, w x = sentAt A (pr s c) s (o + (x 1).val) (x 2).val)
    (t : Fin 12) (ht : t.val < 10) (hst : t.val / 2 = s.val / 2 + 1) (hb : base t c = rb ρ c) (x : S1x64x512.Idx) :
    k0_pay29 v w x = sentAt A c t (0 + (x 1).val) (x 2).val := by
  obtain ⟨r, j, rfl⟩ := ex3 x
  rw [pay29_at, sum_at A h hs v w hv hw]
  unfold sentAt; rw [if_pos ht, hst, hb, Nat.zero_add]; rfl

/-- A completed quarter that arrived, widened. -/
theorem put52 {s : Fin 12} {ρ : Fin 6} (hg : ∀ (r j : ℕ), r < 64 → sentAt A (pr s c) s r j = res A c (rb ρ c + r) j) (w : Vec F S1x64x512 .bf16)
    (hw : ∀ x : S1x64x512.Idx, w x = sentAt A (pr s c) s (0 + (x 1).val) (x 2).val) (x : S64x512.Idx) :
    k0_pay52 w x = val A 5 c (rb ρ c + (x 0).val) (x 1).val := by
  obtain ⟨r, j, rfl⟩ := ex2 x
  rw [pay52_at, hw, Nat.zero_add, hg _ _ (show (ix3 (0 : Fin 1) r j 1).val < 64 from r.isLt)]; rfl
/-- A completed half that arrived, widened. -/
theorem put56 {s : Fin 12} {ρ : Fin 6} (hg : ∀ (r j : ℕ), sentAt A (pr s c) s r j = res A c (rb ρ c + r) j) (w : Vec F S1x128x512 .bf16)
    (hw : ∀ x : S1x128x512.Idx, w x = sentAt A (pr s c) s (0 + (x 1).val) (x 2).val) (x : S128x512.Idx) :
    k0_pay56 w x = val A 5 c (rb ρ c + (x 0).val) (x 1).val := by
  obtain ⟨r, j, rfl⟩ := ex2 x
  rw [pay56_at, hw, Nat.zero_add, hg]; rfl

/-- A device's completed quarter, rounded, as part of the half it passes on. -/
theorem pass49 {t : Fin 12} {ρ : Fin 6} {o : ℕ} (ht : 10 ≤ t.val) (hg : ∀ (r j : ℕ), r < 64 → narrow (acc A 4 c (rb ρ c + r) j) = res A c (rb ρ c + r) j)
    (hb : base t c + o = rb ρ c) (v : Vec F S64x512 .f32) (hv : ∀ x : S64x512.Idx, v x = val A 4 c (rb ρ c + (x 0).val) (x 1).val) (x : S1x64x512.Idx) :
    k0_pay49 v x = sentAt A c t (o + (x 1).val) (x 2).val := by
  obtain ⟨r, j, rfl⟩ := ex3 x
  rw [pay49_at, hv]
  unfold val sentAt; rw [if_pos (by omega), if_neg (by omega), ← Nat.add_assoc, hb]
  exact hg _ _ r.isLt
/-- A completed quarter that arrived, as part of the half passed on. -/
theorem pass54 {s t : Fin 12} {b o : ℕ} (ht : 10 ≤ t.val) (hg : ∀ (r j : ℕ), r < 64 → sentAt A (pr s c) s r j = res A c (b + r) j)
    (hb : base t c + o = b) (w : Vec F S1x64x512 .bf16) (hw : ∀ x : S1x64x512.Idx, w x = sentAt A (pr s c) s (0 + (x 1).val) (x 2).val) (x : S1x64x512.Idx) :
    k0_pay54 w x = sentAt A c t (o + (x 1).val) (x 2).val := by
  obtain ⟨r, j, rfl⟩ := ex3 x
  rw [pay54_at, hw, Nat.zero_add, hg _ _ (show (ix3 (0 : Fin 1) r j 1).val < 64 from r.isLt), ← hb]
  conv_rhs => unfold sentAt
  rw [if_neg (by omega), Nat.add_assoc]

end Cert.KI

end
-- ==== Proof.KI.PartsA.lean ====
/- The first joins: what arrived along `x` and along `y` is added, the sums are stored and passed on. -/
module

public import proofs.«01_k».proof.Proof.KI.Buffers
public import proofs.«01_k».proof.Proof.KI.Values

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A function of the body's operands at the buffers the program is called with. -/
abbrev onArgs {β : Sort*} (f : (arg0 : Memref sig .tc .vmem S512x256 .f32) → arg0.IsWhole → (arg1 : Memref sig .tc .vmem S256x64 .f32) → arg1.IsWhole →
    (arg2 : Memref sig .tc .vmem S512x2 .i32) → arg2.IsWhole → (arg3 : Memref sig .tc .vmem S4x256x512 .f32) → arg3.IsWhole →
    (arg4 : Memref sig .tc .vmem S512x512 .f32) → arg4.IsWhole → (arg5 : Memref sig .tc .vmem S12x128x512 .bf16) → arg5.IsWhole →
    (arg6 : Memref sig .tc .vmem S12x128x512 .bf16) → arg6.IsWhole → DmaSems sig S12 → DmaSems sig S12 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3

variable (A : Inp F) (K : Dev nD × Cell → ℕ) (c : Dev nD)

/-- The coordinates of a corner in the result array. -/
theorem off_at {f : Fin 2 → ℕ} {b : ℕ} (h : f = ![b, 0]) : f 0 = b ∧ f 1 = 0 := by subst h; exact ⟨rfl, rfl⟩
/-- The coordinates of a corner in a transfer buffer. -/
theorem off_at3 {f : Fin 3 → ℕ} {a b : ℕ} (h : f = ![a, b, 0]) : f 0 = a ∧ f 1 = b ∧ f 2 = 0 := by subst h; exact ⟨rfl, rfl, rfl⟩

/-- The 64 rows of a region of the result array, as loaded; -/
theorem out64 {κ : Fin 6 → ℕ} (ρ : Fin 6) (n : ℕ) {off : Fin 2 → ℕ} (inb : ∀ a, off a + S64x512.size a ≤ S512x512.size a)
    (h : off 0 = rb ρ c ∧ off 1 = 0) (hl : 64 ≤ rl ρ) (hn : κ ρ = n) (x : S64x512.Idx) :
    (oM : Memref sig .tc .vmem S512x512 .f32).view.readAt (Elt F) (Rect.unit (s := S512x512) off S64x512.size inb).toLoadRect (outAt A c κ) x
      = val A n c (rb ρ c + (x 0).val) (x 1).val := by
  subst hn; exact out_read A c κ ρ inb h.1 h.2 hl x
/-- and 64 rows of what transfer `s` brought. -/
theorem rcv64 (s : Fin 12) (o : ℕ) {off : Fin 3 → ℕ} (inb : ∀ a, off a + S1x64x512.size a ≤ S12x128x512.size a)
    (h : off 0 = s.val ∧ off 1 = o ∧ off 2 = 0) (x : S1x64x512.Idx) :
    (rM : Memref sig .tc .vmem S12x128x512 .bf16).view.readAt (Elt F) (Rect.unit (s := S12x128x512) off S1x64x512.size inb).toLoadRect (sent A (pr s c)) x
      = sentAt A (pr s c) s (o + (x 1).val) (x 2).val :=
  rcv_read A (pr s c) s o inb h.1 h.2.1 h.2.2 rfl x

/-- A store of all 64 rows a transfer carries. -/
theorem wp_fill64 (t : Fin 12) (ht : rows t = 64) {off : Fin 3 → ℕ} (inb : ∀ a, off a + S1x64x512.size a ≤ S12x128x512.size a)
    (h : off 0 = t.val ∧ off 1 = 0 ∧ off 2 = 0) (w : S1x64x512.Idx → Elt F .bf16) (hw : ∀ x : S1x64x512.Idx, w x = sentAt A c t (0 + (x 1).val) (x 2).val)
    {hx : ((sM : Memref sig .tc .vmem S12x128x512 .bf16).access (Rect.unit (s := S12x128x512) off S1x64x512.size inb)).Stores Finset.univ}
    {hm : (Finset.univ : Finset (Rect.unit (s := S12x128x512) off S1x64x512.size inb).shape.Idx) = Finset.univ ∨ ∀ a, (Rect.unit (s := S12x128x512) off S1x64x512.size inb).stride a = 1}
    {α : Type} {Q : α → sProp 𝕄} {k : PUnit → Prog (TpuEff nD τ sig (Elt F) Λ₀ .tc) α} :
    sndHas A c t (fun _ => False) ⊢ iprop((sndPts c t (sent A c) -∗ wp frame (wpE (defs₀ (F := F)) 𝒱₀ (c : Thread nD τ) none) Set.univ (k ⟨⟩) Q)
      -∗ wp frame (wpE (defs₀ (F := F)) 𝒱₀ (c : Thread nD τ) none) Set.univ
          (.op (.store sM (Rect.unit (s := S12x128x512) off S1x64x512.size inb) w Finset.univ hx hm) k) Q) := by
  iintro Hs Hk
  iapply (wp_store_snd A c t inb 0 h.1 h.2.1 h.2.2 rfl (by rw [ht]; exact le_rfl) rfl w hw) $$ Hs
  iintro Hs
  iapply Hk
  iapply (sndHas_all A c t (fun r hr => .inr ⟨Nat.zero_le _, by rw [ht] at hr; exact hr⟩)) $$ Hs

/-- Transfer `s` starts, 64 rows of it. -/
theorem wp_send64 (s : Fin 12) (hr : rows s = 64) {off : Fin 3 → ℕ} (inb : ∀ a, off a + S1x64x512.size a ≤ S12x128x512.size a)
    {o : Fin 1 → ℕ} (ib : ∀ a, o a + S1.size a ≤ S12.size a) (h : off 0 = s.val ∧ off 1 = 0 ∧ off 2 = 0) {n : Dev nD} (hn : n = pr s c)
    (hqs : ((cc0_scratch2.slice (Rect.unit (s := S12) o S1.size ib)).squeeze S_ squeezes_S1_S_).sem = sendS s)
    (hqr : ((cc0_scratch3.slice (Rect.unit (s := S12) o S1.size ib)).squeeze S_ squeezes_S1_S_).sem = recvS s)
    {hsc : (rcvV inb squeezes_S1x64x512_S64x512 : Memref sig (Dev.tc n : Thread nD τ).2.kind .vmem S64x512 .bf16).view.ref.isScScratch = false}
    {hsrc : (sndV inb squeezes_S1x64x512_S64x512).view.WordExact} {hdst : (rcvV inb squeezes_S1x64x512_S64x512).view.WordExact}
    {hsem : DmaTarget.Typed .vmem (.dma ((cc0_scratch3.slice (Rect.unit (s := S12) o S1.size ib)).squeeze S_ squeezes_S1_S_).sem)
      (.remote (Dev.tc n : Thread nD τ) (rcvV inb squeezes_S1x64x512_S64x512) (.dma ((cc0_scratch2.slice (Rect.unit (s := S12) o S1.size ib)).squeeze S_ squeezes_S1_S_).sem) hsc)}
    {α : Type} {Q : α → sProp 𝕄} {k : PUnit → Prog (TpuEff nD τ sig (Elt F) Λ₀ .tc) α} :
    iprop(facts A K ∗ owing c s.val ∗ ready c s ∗ sndPts c s (sent A c))
      ⊢ iprop((owing c (s.val + 1) ∗ flying c s -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (sndV inb squeezes_S1x64x512_S64x512)
              (.remote (Dev.tc n : Thread nD τ) (rcvV inb squeezes_S1x64x512_S64x512) (.dma ((cc0_scratch2.slice (Rect.unit (s := S12) o S1.size ib)).squeeze S_ squeezes_S1_S_).sem) hsc)
              (.dma ((cc0_scratch3.slice (Rect.unit (s := S12) o S1.size ib)).squeeze S_ squeezes_S1_S_).sem) hsrc hdst hsem) k) Q) :=
  wp_send_slot A K inb squeezes_S1x64x512_S64x512 s h.1 h.2.1 h.2.2 rfl hr.symm rfl c n hn (by
    rw [show cr s = cr64 from by unfold cr; rw [hr]; rfl]; rfl) hqs hqr

/-- Transfer `s` starts, 128 rows of it. -/
theorem wp_send128 (s : Fin 12) (hr : rows s = 128) {off : Fin 3 → ℕ} (inb : ∀ a, off a + S1x128x512.size a ≤ S12x128x512.size a)
    {o : Fin 1 → ℕ} (ib : ∀ a, o a + S1.size a ≤ S12.size a) (h : off 0 = s.val ∧ off 1 = 0 ∧ off 2 = 0) {n : Dev nD} (hn : n = pr s c)
    (hqs : ((cc0_scratch2.slice (Rect.unit (s := S12) o S1.size ib)).squeeze S_ squeezes_S1_S_).sem = sendS s)
    (hqr : ((cc0_scratch3.slice (Rect.unit (s := S12) o S1.size ib)).squeeze S_ squeezes_S1_S_).sem = recvS s)
    {hsc : (rcvV inb squeezes_S1x128x512_S128x512 : Memref sig (Dev.tc n : Thread nD τ).2.kind .vmem S128x512 .bf16).view.ref.isScScratch = false}
    {hsrc : (sndV inb squeezes_S1x128x512_S128x512).view.WordExact} {hdst : (rcvV inb squeezes_S1x128x512_S128x512).view.WordExact}
    {hsem : DmaTarget.Typed .vmem (.dma ((cc0_scratch3.slice (Rect.unit (s := S12) o S1.size ib)).squeeze S_ squeezes_S1_S_).sem)
      (.remote (Dev.tc n : Thread nD τ) (rcvV inb squeezes_S1x128x512_S128x512) (.dma ((cc0_scratch2.slice (Rect.unit (s := S12) o S1.size ib)).squeeze S_ squeezes_S1_S_).sem) hsc)}
    {α : Type} {Q : α → sProp 𝕄} {k : PUnit → Prog (TpuEff nD τ sig (Elt F) Λ₀ .tc) α} :
    iprop(facts A K ∗ owing c s.val ∗ ready c s ∗ sndPts c s (sent A c))
      ⊢ iprop((owing c (s.val + 1) ∗ flying c s -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (sndV inb squeezes_S1x128x512_S128x512)
              (.remote (Dev.tc n : Thread nD τ) (rcvV inb squeezes_S1x128x512_S128x512) (.dma ((cc0_scratch2.slice (Rect.unit (s := S12) o S1.size ib)).squeeze S_ squeezes_S1_S_).sem) hsc)
              (.dma ((cc0_scratch3.slice (Rect.unit (s := S12) o S1.size ib)).squeeze S_ squeezes_S1_S_).sem) hsrc hdst hsem) k) Q) :=
  wp_send_slot A K inb squeezes_S1x128x512_S128x512 s h.1 h.2.1 h.2.2 rfl hr.symm rfl c n hn (by
    rw [show cr s = cr128 from by unfold cr; rw [hr]; rfl]; rfl) hqs hqr

/-- The wait for transfer `s` to have been sent, 64 rows. -/
theorem wp_sent64 (s : Fin 12) (n : ℕ) (hr : rows s = 64) {off : Fin 3 → ℕ} (inb : ∀ a, off a + S1x64x512.size a ≤ S12x128x512.size a)
    {o : Fin 1 → ℕ} (ib : ∀ a, o a + S1.size a ≤ S12.size a)
    (hq : ((cc0_scratch2.slice (Rect.unit (s := S12) o S1.size ib)).squeeze S_ squeezes_S1_S_).sem = sendS s)
    {hsrc : (rcvV inb squeezes_S1x64x512_S64x512).view.WordExact} {hdst : (sndV inb squeezes_S1x64x512_S64x512).view.WordExact}
    {α : Type} {Q : α → sProp 𝕄} {k : PUnit → Prog (TpuEff nD τ sig (Elt F) Λ₀ .tc) α} :
    iprop(facts A K ∗ owing c n ∗ flying c s ∗ atS c s)
      ⊢ iprop((owing c n ∗ sentDone A c s -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 ((cc0_scratch2.slice (Rect.unit (s := S12) o S1.size ib)).squeeze S_ squeezes_S1_S_).sem
              (rcvV inb squeezes_S1x64x512_S64x512) (sndV inb squeezes_S1x64x512_S64x512) hsrc hdst) k) Q) :=
  wp_wait_send A K c s n hq (by rw [show cr s = cr64 from by unfold cr; rw [hr]; rfl]; rfl)

/-- The wait for transfer `s` to have arrived, 64 rows. -/
theorem wp_came64 (s : Fin 12) (n : ℕ) (hn : s.val < n) (hr : rows s = 64) {off : Fin 3 → ℕ} (inb : ∀ a, off a + S1x64x512.size a ≤ S12x128x512.size a)
    {o : Fin 1 → ℕ} (ib : ∀ a, o a + S1.size a ≤ S12.size a)
    (hq : ((cc0_scratch3.slice (Rect.unit (s := S12) o S1.size ib)).squeeze S_ squeezes_S1_S_).sem = recvS s)
    {hsrc : (sndV inb squeezes_S1x64x512_S64x512).view.WordExact} {hdst : (rcvV inb squeezes_S1x64x512_S64x512).view.WordExact}
    {α : Type} {Q : α → sProp 𝕄} {k : PUnit → Prog (TpuEff nD τ sig (Elt F) Λ₀ .tc) α} :
    iprop(facts A K ∗ owing c n ∗ coming c s)
      ⊢ iprop((owing c n ∗ rcvDone A c s -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 ((cc0_scratch3.slice (Rect.unit (s := S12) o S1.size ib)).squeeze S_ squeezes_S1_S_).sem
              (sndV inb squeezes_S1x64x512_S64x512) (rcvV inb squeezes_S1x64x512_S64x512) hsrc hdst) k) Q) :=
  wp_wait_recv A K c s n hn hq (by rw [show cr s = cr64 from by unfold cr; rw [hr]; rfl]; rfl)

/-- The wait for transfer `s` to have been sent, 128 rows. -/
theorem wp_sent128 (s : Fin 12) (n : ℕ) (hr : rows s = 128) {off : Fin 3 → ℕ} (inb : ∀ a, off a + S1x128x512.size a ≤ S12x128x512.size a)
    {o : Fin 1 → ℕ} (ib : ∀ a, o a + S1.size a ≤ S12.size a)
    (hq : ((cc0_scratch2.slice (Rect.unit (s := S12) o S1.size ib)).squeeze S_ squeezes_S1_S_).sem = sendS s)
    {hsrc : (rcvV inb squeezes_S1x128x512_S128x512).view.WordExact} {hdst : (sndV inb squeezes_S1x128x512_S128x512).view.WordExact}
    {α : Type} {Q : α → sProp 𝕄} {k : PUnit → Prog (TpuEff nD τ sig (Elt F) Λ₀ .tc) α} :
    iprop(facts A K ∗ owing c n ∗ flying c s ∗ atS c s)
      ⊢ iprop((owing c n ∗ sentDone A c s -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 ((cc0_scratch2.slice (Rect.unit (s := S12) o S1.size ib)).squeeze S_ squeezes_S1_S_).sem
              (rcvV inb squeezes_S1x128x512_S128x512) (sndV inb squeezes_S1x128x512_S128x512) hsrc hdst) k) Q) :=
  wp_wait_send A K c s n hq (by rw [show cr s = cr128 from by unfold cr; rw [hr]; rfl]; rfl)

/-- The wait for transfer `s` to have arrived, 128 rows. -/
theorem wp_came128 (s : Fin 12) (n : ℕ) (hn : s.val < n) (hr : rows s = 128) {off : Fin 3 → ℕ} (inb : ∀ a, off a + S1x128x512.size a ≤ S12x128x512.size a)
    {o : Fin 1 → ℕ} (ib : ∀ a, o a + S1.size a ≤ S12.size a)
    (hq : ((cc0_scratch3.slice (Rect.unit (s := S12) o S1.size ib)).squeeze S_ squeezes_S1_S_).sem = recvS s)
    {hsrc : (sndV inb squeezes_S1x128x512_S128x512).view.WordExact} {hdst : (rcvV inb squeezes_S1x128x512_S128x512).view.WordExact}
    {α : Type} {Q : α → sProp 𝕄} {k : PUnit → Prog (TpuEff nD τ sig (Elt F) Λ₀ .tc) α} :
    iprop(facts A K ∗ owing c n ∗ coming c s)
      ⊢ iprop((owing c n ∗ rcvDone A c s -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 ((cc0_scratch3.slice (Rect.unit (s := S12) o S1.size ib)).squeeze S_ squeezes_S1_S_).sem
              (sndV inb squeezes_S1x128x512_S128x512) (rcvV inb squeezes_S1x128x512_S128x512) hsrc hdst) k) Q) :=
  wp_wait_recv A K c s n hn hq (by rw [show cr s = cr128 from by unfold cr; rw [hr]; rfl]; rfl)

/-- Wait for transfer 0; the sum of the neighbouring quarter, stored to be sent by transfer 2. -/
theorem k0_part10_ok (v5 v15 v18 v107 : BitVec 32) (Kt : _ → sProp 𝕄) :
    iprop(facts A K ∗ owing c 2 ∗ coming c 0 ∗ outPts A c ![0, 0, 0, 0, 0, 0] ∗ sndHas A c 2 (fun _ => False)
      ∗ (∀ (v174 : BitVec 32) (v184 : FVec F S64x512 .f32), iprop(⌜∀ x : S64x512.Idx, v184 x = val A 1 c (rb 1 c + (x 0).val) (x 1).val⌝
          ∗ owing c 2 ∗ rcvDone A c 0 ∗ outPts A c ![0, 0, 0, 0, 0, 0] ∗ sndPts c 2 (sent A c) -∗ Kt ⟨v174, v184⟩)))
      ⊢ wp frame (wpE (defs₀ (F := F)) 𝒱₀ (c : Thread nD τ) none) Set.univ (onArgs (k0_part10 (F := F)) c v5 v15 v18 v107) Kt := by
  unfold onArgs
  rw [k0_part10_eq_skeleton]; unfold k0_part10_skel
  simp only [Prog.lift, Prog.bind_op, Prog.bind_ret, Prog.pure_eq_ret]
  have h1 := off_at (off1_eq c)
  have h2 := off_at3 (off2_eq c)
  iintro ⟨#Hf, HO, Hc, Ho, Hs, Hk⟩
  iapply (wp_came128 A K c 0 2 (by decide) rfl inb_S12x128x512_S1x128x512_0_0_0 inb_S12_S1_0 rfl) $$ [HO Hc]
  · iframe Hf HO Hc
  iintro ⟨HO, Hr⟩
  iapply (wp_load_out A c _ _) $$ Ho
  iintro Ho
  iapply (wp_load_rcv A c 0 _ h2.1 rfl (by rw [h2.2.1]; show 64 - 64 * by' c + 64 ≤ 128; omega)) $$ Hr
  iintro Hr
  iapply (wp_load_snd A c 2 _ rfl rfl (by decide)) $$ Hs
  iintro %_ Hs
  iapply (wp_fill64 A c 2 rfl _ ⟨rfl, rfl, rfl⟩ _
    (join29 A (joins0 c) (by decide) _ _ (out64 A c 1 0 _ h1 le_rfl rfl) (rcv64 A c 0 _ _ h2) 2 (by decide) rfl rfl)) $$ Hs
  iintro Hs
  rw [wp_ret]; imodintro
  iapply Hk
  isplitr; · ipureintro; exact (join28 A (joins0 c) (by decide) _ _ (out64 A c 1 0 _ h1 le_rfl rfl) (rcv64 A c 0 _ _ h2))
  iframe HO Hr Ho Hs

/-- Transfer 2 starts; both quarters of the half hold the sums of the first step; transfer 1 has been sent. -/
theorem k0_part11_ok (v5 v18 v109 v174 : BitVec 32) (v184 : FVec F S64x512 .f32) (hv : ∀ x : S64x512.Idx, v184 x = val A 1 c (rb 1 c + (x 0).val) (x 1).val)
    (Kt : _ → sProp 𝕄) :
    iprop(facts A K ∗ owing c 2 ∗ ready c 2 ∗ sndPts c 2 (sent A c) ∗ rcvDone A c 0 ∗ outPts A c ![0, 0, 0, 0, 0, 0] ∗ flying c 1 ∗ atS c 1
      ∗ (owing c 3 ∗ flying c 2 ∗ rcvDone A c 0 ∗ outPts A c ![1, 1, 0, 0, 0, 0] ∗ sentDone A c 1 -∗ Kt ⟨⟩))
      ⊢ wp frame (wpE (defs₀ (F := F)) 𝒱₀ (c : Thread nD τ) none) Set.univ (onArgs (k0_part11 (F := F)) c v5 v18 v109 v174 v184) Kt := by
  unfold onArgs
  rw [k0_part11_eq_skeleton]; unfold k0_part11_skel
  simp only [Prog.lift, Prog.bind_op, Prog.bind_ret, Prog.pure_eq_ret]
  have h1 := off_at (off1_eq c)
  have h3 := off_at (off3_eq c)
  have h4 := off_at3 (off4_eq c)
  iintro ⟨#Hf, HO, Hready, Hs, Hr, Ho, Hfl, Hat, Hk⟩
  iapply (wp_send64 A K c 2 rfl inb_S12x128x512_S1x64x512_2_0_0 inb_S12_S1_2 ⟨rfl, rfl, rfl⟩ (dev7_eq c) rfl rfl) $$ [HO Hready Hs]
  · iframe Hf HO Hready Hs
  iintro ⟨HO, Hfl2⟩
  iapply (wp_load_out A c _ _) $$ Ho
  iintro Ho
  iapply (wp_store_out A c _ _ 1 1 h1.1 h1.2 rfl rfl _ hv (κ' := ![0, 1, 0, 0, 0, 0]) (by decide)) $$ Ho
  iintro Ho
  iapply (wp_load_out A c _ _) $$ Ho
  iintro Ho
  iapply (wp_load_rcv A c 0 _ h4.1 rfl (by rw [h4.2.1]; show 64 * by' c + 64 ≤ 128; have := by_lt c; omega)) $$ Hr
  iintro Hr
  iapply (wp_load_out A c _ _) $$ Ho
  iintro Ho
  iapply (wp_store_out A c _ _ 0 1 h3.1 h3.2 rfl rfl _ (by
    rw [pay30_eq]
    exact join28 A (joins0' c) (by decide) _ _ (out64 A c 0 0 _ h3 le_rfl rfl) (rcv64 A c 0 _ _ h4)) (κ' := ![1, 1, 0, 0, 0, 0]) (by decide)) $$ Ho
  iintro Ho
  iapply (wp_sent128 A K c 1 3 rfl inb_S12x128x512_S1x128x512_1_0_0 inb_S12_S1_1 rfl) $$ [HO Hfl Hat]
  · iframe Hf HO Hfl Hat
  iintro ⟨HO, Hd⟩
  rw [wp_ret]; imodintro
  iapply Hk
  iframe HO Hfl2 Hr Ho Hd

end Cert.KI

end
-- ==== Proof.KI.PartsB.lean ====
/- The joins across the halves and across the planes. -/
module

public import proofs.«01_k».proof.Proof.KI.PartsA

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Inp F) (K : Dev nD × Cell → ℕ) (c : Dev nD)

/-- Transfer 1 has arrived: its first quarter is joined and sent on by transfer 3; the other quarter is read. -/
theorem k0_part12_ok (v7 v15 v111 v113 : BitVec 32) (Kt : _ → sProp 𝕄) :
    iprop(facts A K ∗ owing c 3 ∗ coming c 1 ∗ outPts A c ![1, 1, 0, 0, 0, 0] ∗ sndHas A c 3 (fun _ => False) ∗ ready c 3
      ∗ (∀ (v257 : FVec F S64x512 .f32) (v258 : BitVec 32), iprop(⌜∃ v : Vec F S64x512 .f32, v257 = k0_pay33 v ∧ ∀ x : S64x512.Idx, v x = val A 0 c (rb 3 c + (x 0).val) (x 1).val⌝
          ∗ owing c 4 ∗ rcvDone A c 1 ∗ outPts A c ![1, 1, 0, 0, 1, 0] ∗ flying c 3 -∗ Kt ⟨v257, v258⟩)))
      ⊢ wp frame (wpE (defs₀ (F := F)) 𝒱₀ (c : Thread nD τ) none) Set.univ (onArgs (k0_part12 (F := F)) c v7 v15 v111 v113) Kt := by
  unfold onArgs
  rw [k0_part12_eq_skeleton]; unfold k0_part12_skel
  simp only [Prog.lift, Prog.bind_op, Prog.bind_ret, Prog.pure_eq_ret]
  have h5 := off_at (off5_eq c)
  have h6 := off_at3 (off6_eq c)
  have h7 := off_at (off7_eq c)
  iintro ⟨#Hf, HO, Hc, Ho, Hs, Hready, Hk⟩
  iapply (wp_came128 A K c 1 3 (by decide) rfl inb_S12x128x512_S1x128x512_1_0_0 inb_S12_S1_1 rfl) $$ [HO Hc]
  · iframe Hf HO Hc
  iintro ⟨HO, Hr⟩
  iapply (wp_load_out A c _ _) $$ Ho
  iintro Ho
  iapply (wp_load_rcv A c 1 _ h6.1 rfl (by rw [h6.2.1]; show 64 - 64 * bx c + 64 ≤ 128; omega)) $$ Hr
  iintro Hr
  iapply (wp_load_snd A c 3 _ rfl rfl (by decide)) $$ Hs
  iintro %_ Hs
  iapply (wp_fill64 A c 3 rfl _ ⟨rfl, rfl, rfl⟩ _ (by
    rw [pay32_eq]
    exact join29 A (joins1 c) (by decide) _ _ (out64 A c 4 0 _ h5 le_rfl rfl) (rcv64 A c 1 _ _ h6) 3 (by decide) rfl rfl)) $$ Hs
  iintro Hs
  iapply (wp_send64 A K c 3 rfl inb_S12x128x512_S1x64x512_3_0_0 inb_S12_S1_3 ⟨rfl, rfl, rfl⟩ (dev8_eq c) rfl rfl) $$ [HO Hready Hs]
  · iframe Hf HO Hready Hs
  iintro ⟨HO, Hfl⟩
  iapply (wp_load_out A c _ _) $$ Ho
  iintro Ho
  iapply (wp_store_out A c _ _ 4 1 h5.1 h5.2 rfl rfl _ (by
    rw [pay31_eq]
    exact join28 A (joins1 c) (by decide) _ _ (out64 A c 4 0 _ h5 le_rfl rfl) (rcv64 A c 1 _ _ h6)) (κ' := ![1, 1, 0, 0, 1, 0]) (by decide)) $$ Ho
  iintro Ho
  iapply (wp_load_out A c _ _) $$ Ho
  iintro Ho
  rw [wp_ret]; imodintro
  iapply Hk
  isplitr; · ipureintro; exact ⟨_, rfl, out64 A c 3 0 _ h7 le_rfl rfl⟩
  iframe HO Hr Ho Hfl

/-- The other quarter is joined; transfer 2 has been sent and has arrived: the sum of the second step of the first quarter. -/
theorem k0_part13_ok (v18 v109 v113 : BitVec 32) (v257 : FVec F S64x512 .f32) (v258 : BitVec 32)
    (hv : ∃ v : Vec F S64x512 .f32, v257 = k0_pay33 v ∧ ∀ x : S64x512.Idx, v x = val A 0 c (rb 3 c + (x 0).val) (x 1).val) (Kt : _ → sProp 𝕄) :
    iprop(facts A K ∗ owing c 4 ∗ rcvDone A c 1 ∗ outPts A c ![1, 1, 0, 0, 1, 0] ∗ flying c 2 ∗ atS c 2 ∗ coming c 2
      ∗ (∀ (v286 : FVec F S64x512 .f32) (v287 : FVec F S64x512 .bf16), iprop(⌜(∀ x : S64x512.Idx, v286 x = val A 2 c (rb 0 c + (x 0).val) (x 1).val)
            ∧ ∀ x : S1x64x512.Idx, k0_pay37 v287 x = sentAt A c 4 (0 + (x 1).val) (x 2).val⌝
          ∗ owing c 4 ∗ rcvDone A c 1 ∗ outPts A c ![1, 1, 0, 1, 1, 0] ∗ sentDone A c 2 ∗ rcvDone A c 2 -∗ Kt ⟨v286, v287⟩)))
      ⊢ wp frame (wpE (defs₀ (F := F)) 𝒱₀ (c : Thread nD τ) none) Set.univ (onArgs (k0_part13 (F := F)) c v18 v109 v113 v257 v258) Kt := by
  obtain ⟨v, rfl, hv⟩ := hv
  unfold onArgs
  rw [k0_part13_eq_skeleton]; unfold k0_part13_skel
  simp only [Prog.lift, Prog.bind_op, Prog.bind_ret, Prog.pure_eq_ret]
  have h3 := off_at (off3_eq c)
  have h7 := off_at (off7_eq c)
  have h8 := off_at3 (off8_eq c)
  iintro ⟨#Hf, HO, Hr, Ho, Hfl, Hat, Hc, Hk⟩
  iapply (wp_load_rcv A c 1 _ h8.1 rfl (by rw [h8.2.1]; show 64 * bx c + 64 ≤ 128; have := bx_lt c; omega)) $$ Hr
  iintro Hr
  iapply (wp_load_out A c _ _) $$ Ho
  iintro Ho
  iapply (wp_store_out A c _ _ 3 1 h7.1 h7.2 rfl rfl _ (by
    rw [pay34_eq]
    exact join28 A (joins1' c) (by decide) _ _ hv (rcv64 A c 1 _ _ h8)) (κ' := ![1, 1, 0, 1, 1, 0]) (by decide)) $$ Ho
  iintro Ho
  iapply (wp_sent64 A K c 2 4 rfl inb_S12x128x512_S1x64x512_2_0_0 inb_S12_S1_2 rfl) $$ [HO Hfl Hat]
  · iframe Hf HO Hfl Hat
  iintro ⟨HO, Hd⟩
  iapply (wp_came64 A K c 2 4 (by decide) rfl inb_S12x128x512_S1x64x512_2_0_0 inb_S12_S1_2 rfl) $$ [HO Hc]
  · iframe Hf HO Hc
  iintro ⟨HO, Hr2⟩
  iapply (wp_load_out A c _ _) $$ Ho
  iintro Ho
  iapply (wp_load_rcv A c 2 _ rfl rfl (by decide)) $$ Hr2
  iintro Hr2
  rw [wp_ret]; imodintro
  iapply Hk
  isplitr
  · ipureintro
    refine ⟨?_, ?_⟩
    · rw [pay35_eq]
      exact join28 A (joins2 c) (by decide) _ _ (out64 A c 0 1 _ h3 le_rfl rfl) (rcv64 A c 2 0 _ ⟨rfl, rfl, rfl⟩)
    · rw [pay37_eq]
      exact join29 A (joins2 c) (by decide) _ _ (out64 A c 0 1 _ h3 le_rfl rfl) (rcv64 A c 2 0 _ ⟨rfl, rfl, rfl⟩) 4 (by decide) rfl rfl
  iframe HO Hr Ho Hd Hr2

/-- Transfer 4 starts with it. -/
theorem k0_part14_ok (v15 v23 v109 : BitVec 32) (v286 : FVec F S64x512 .f32) (v287 : FVec F S64x512 .bf16)
    (hv : ∀ x : S64x512.Idx, v286 x = val A 2 c (rb 0 c + (x 0).val) (x 1).val)
    (hw : ∀ x : S1x64x512.Idx, k0_pay37 v287 x = sentAt A c 4 (0 + (x 1).val) (x 2).val) (Kt : _ → sProp 𝕄) :
    iprop(facts A K ∗ owing c 4 ∗ sndHas A c 4 (fun _ => False) ∗ ready c 4 ∗ outPts A c ![1, 1, 0, 1, 1, 0] ∗ flying c 3 ∗ atS c 3
      ∗ (owing c 5 ∗ flying c 4 ∗ outPts A c ![2, 1, 0, 1, 1, 0] ∗ sentDone A c 3 -∗ Kt ⟨⟩))
      ⊢ wp frame (wpE (defs₀ (F := F)) 𝒱₀ (c : Thread nD τ) none) Set.univ (onArgs (k0_part14 (F := F)) c v15 v23 v109 v286 v287) Kt := by
  unfold onArgs
  rw [k0_part14_eq_skeleton]; unfold k0_part14_skel
  simp only [Prog.lift, Prog.bind_op, Prog.bind_ret, Prog.pure_eq_ret]
  have h3 := off_at (off3_eq c)
  iintro ⟨#Hf, HO, Hs, Hready, Ho, Hfl, Hat, Hk⟩
  iapply (wp_load_snd A c 4 _ rfl rfl (by decide)) $$ Hs
  iintro %_ Hs
  iapply (wp_fill64 A c 4 rfl _ ⟨rfl, rfl, rfl⟩ _ hw) $$ Hs
  iintro Hs
  iapply (wp_send64 A K c 4 rfl inb_S12x128x512_S1x64x512_4_0_0 inb_S12_S1_4 ⟨rfl, rfl, rfl⟩ (dev9_eq c) rfl rfl) $$ [HO Hready Hs]
  · iframe Hf HO Hready Hs
  iintro ⟨HO, Hfl4⟩
  iapply (wp_load_out A c _ _) $$ Ho
  iintro Ho
  iapply (wp_store_out A c _ _ 0 2 h3.1 h3.2 rfl rfl _ hv (κ' := ![2, 1, 0, 1, 1, 0]) (by decide)) $$ Ho
  iintro Ho
  iapply (wp_sent64 A K c 3 5 rfl inb_S12x128x512_S1x64x512_3_0_0 inb_S12_S1_3 rfl) $$ [HO Hfl Hat]
  · iframe Hf HO Hfl Hat
  iintro ⟨HO, Hd⟩
  rw [wp_ret]; imodintro
  iapply Hk
  iframe HO Hfl4 Ho Hd

/-- Transfer 3 has arrived; the sum of the second step of the other quarter, sent on by transfer 5. -/
theorem k0_part15_ok (v23 v113 : BitVec 32) (Kt : _ → sProp 𝕄) :
    iprop(facts A K ∗ owing c 5 ∗ coming c 3 ∗ outPts A c ![2, 1, 0, 1, 1, 0] ∗ sndHas A c 5 (fun _ => False) ∗ ready c 5
      ∗ (owing c 6 ∗ flying c 5 ∗ outPts A c ![2, 1, 0, 2, 1, 0] ∗ rcvDone A c 3 -∗ Kt ⟨⟩))
      ⊢ wp frame (wpE (defs₀ (F := F)) 𝒱₀ (c : Thread nD τ) none) Set.univ (onArgs (k0_part15 (F := F)) c v23 v113) Kt := by
  unfold onArgs
  rw [k0_part15_eq_skeleton]; unfold k0_part15_skel
  simp only [Prog.lift, Prog.bind_op, Prog.bind_ret, Prog.pure_eq_ret]
  have h7 := off_at (off7_eq c)
  iintro ⟨#Hf, HO, Hc, Ho, Hs, Hready, Hk⟩
  iapply (wp_came64 A K c 3 5 (by decide) rfl inb_S12x128x512_S1x64x512_3_0_0 inb_S12_S1_3 rfl) $$ [HO Hc]
  · iframe Hf HO Hc
  iintro ⟨HO, Hr⟩
  iapply (wp_load_out A c _ _) $$ Ho
  iintro Ho
  iapply (wp_load_rcv A c 3 _ rfl rfl (by decide)) $$ Hr
  iintro Hr
  iapply (wp_load_snd A c 5 _ rfl rfl (by decide)) $$ Hs
  iintro %_ Hs
  iapply (wp_fill64 A c 5 rfl _ ⟨rfl, rfl, rfl⟩ _ (by
    rw [pay39_eq]
    exact join29 A (joins3 c) (by decide) _ _ (out64 A c 3 1 _ h7 le_rfl rfl) (rcv64 A c 3 0 _ ⟨rfl, rfl, rfl⟩) 5 (by decide) rfl rfl)) $$ Hs
  iintro Hs
  iapply (wp_send64 A K c 5 rfl inb_S12x128x512_S1x64x512_5_0_0 inb_S12_S1_5 ⟨rfl, rfl, rfl⟩ (dev10_eq c) rfl rfl) $$ [HO Hready Hs]
  · iframe Hf HO Hready Hs
  iintro ⟨HO, Hfl⟩
  iapply (wp_load_out A c _ _) $$ Ho
  iintro Ho
  iapply (wp_store_out A c _ _ 3 2 h7.1 h7.2 rfl rfl _ (by
    rw [pay38_eq]
    exact join28 A (joins3 c) (by decide) _ _ (out64 A c 3 1 _ h7 le_rfl rfl) (rcv64 A c 3 0 _ ⟨rfl, rfl, rfl⟩)) (κ' := ![2, 1, 0, 2, 1, 0]) (by decide)) $$ Ho
  iintro Ho
  rw [wp_ret]; imodintro
  iapply Hk
  iframe HO Hfl Ho Hr

/-- Transfer 4 has been sent and has arrived; the sum of the third step of the first quarter, ready for transfer 6. -/
theorem k0_part16_ok (v23 v28 v109 : BitVec 32) (Kt : _ → sProp 𝕄) :
    iprop(facts A K ∗ owing c 6 ∗ flying c 4 ∗ atS c 4 ∗ coming c 4 ∗ outPts A c ![2, 1, 0, 2, 1, 0] ∗ sndHas A c 6 (fun _ => False)
      ∗ (∀ v360 : FVec F S64x512 .f32, iprop(⌜∀ x : S64x512.Idx, v360 x = val A 3 c (rb 0 c + (x 0).val) (x 1).val⌝
          ∗ owing c 6 ∗ sentDone A c 4 ∗ rcvDone A c 4 ∗ outPts A c ![2, 1, 0, 2, 1, 0] ∗ sndPts c 6 (sent A c) -∗ Kt v360)))
      ⊢ wp frame (wpE (defs₀ (F := F)) 𝒱₀ (c : Thread nD τ) none) Set.univ (onArgs (k0_part16 (F := F)) c v23 v28 v109) Kt := by
  unfold onArgs
  rw [k0_part16_eq_skeleton]; unfold k0_part16_skel
  simp only [Prog.lift, Prog.bind_op, Prog.bind_ret, Prog.pure_eq_ret]
  have h3 := off_at (off3_eq c)
  iintro ⟨#Hf, HO, Hfl, Hat, Hc, Ho, Hs, Hk⟩
  iapply (wp_sent64 A K c 4 6 rfl inb_S12x128x512_S1x64x512_4_0_0 inb_S12_S1_4 rfl) $$ [HO Hfl Hat]
  · iframe Hf HO Hfl Hat
  iintro ⟨HO, Hd⟩
  iapply (wp_came64 A K c 4 6 (by decide) rfl inb_S12x128x512_S1x64x512_4_0_0 inb_S12_S1_4 rfl) $$ [HO Hc]
  · iframe Hf HO Hc
  iintro ⟨HO, Hr⟩
  iapply (wp_load_out A c _ _) $$ Ho
  iintro Ho
  iapply (wp_load_rcv A c 4 _ rfl rfl (by decide)) $$ Hr
  iintro Hr
  iapply (wp_load_snd A c 6 _ rfl rfl (by decide)) $$ Hs
  iintro %_ Hs
  iapply (wp_fill64 A c 6 rfl _ ⟨rfl, rfl, rfl⟩ _ (by
    rw [pay41_eq]
    exact join29 A (joins4 c) (by decide) _ _ (out64 A c 0 2 _ h3 le_rfl rfl) (rcv64 A c 4 0 _ ⟨rfl, rfl, rfl⟩) 6 (by decide) rfl rfl)) $$ Hs
  iintro Hs
  rw [wp_ret]; imodintro
  iapply Hk
  isplitr
  · ipureintro; rw [pay40_eq]
    exact join28 A (joins4 c) (by decide) _ _ (out64 A c 0 2 _ h3 le_rfl rfl) (rcv64 A c 4 0 _ ⟨rfl, rfl, rfl⟩)
  iframe HO Hd Hr Ho Hs

/-- Transfer 6 starts; transfer 5 has been sent and has arrived: the sum of the third step of the other quarter. -/
theorem k0_part17_ok (v23 v109 v113 : BitVec 32) (v360 : FVec F S64x512 .f32)
    (hv : ∀ x : S64x512.Idx, v360 x = val A 3 c (rb 0 c + (x 0).val) (x 1).val) (Kt : _ → sProp 𝕄) :
    iprop(facts A K ∗ owing c 6 ∗ sndPts c 6 (sent A c) ∗ ready c 6 ∗ outPts A c ![2, 1, 0, 2, 1, 0] ∗ flying c 5 ∗ atS c 5 ∗ coming c 5 ∗ sndHas A c 7 (fun _ => False)
      ∗ (∀ (v397 : FVec F S64x512 .f32) (v398 : FVec F S64x512 .bf16), iprop(⌜(∀ x : S64x512.Idx, v397 x = val A 3 c (rb 3 c + (x 0).val) (x 1).val)
            ∧ ∀ x : S1x64x512.Idx, k0_pay44 v398 x = sentAt A c 7 (0 + (x 1).val) (x 2).val⌝
          ∗ owing c 7 ∗ flying c 6 ∗ outPts A c ![3, 1, 0, 2, 1, 0] ∗ sentDone A c 5 ∗ rcvDone A c 5 ∗ sndHas A c 7 (fun _ => False) -∗ Kt ⟨v397, v398⟩)))
      ⊢ wp frame (wpE (defs₀ (F := F)) 𝒱₀ (c : Thread nD τ) none) Set.univ (onArgs (k0_part17 (F := F)) c v23 v109 v113 v360) Kt := by
  unfold onArgs
  rw [k0_part17_eq_skeleton]; unfold k0_part17_skel
  simp only [Prog.lift, Prog.bind_op, Prog.bind_ret, Prog.pure_eq_ret]
  have h3 := off_at (off3_eq c)
  have h7 := off_at (off7_eq c)
  iintro ⟨#Hf, HO, Hs, Hready, Ho, Hfl, Hat, Hc, Hs7, Hk⟩
  iapply (wp_send64 A K c 6 rfl inb_S12x128x512_S1x64x512_6_0_0 inb_S12_S1_6 ⟨rfl, rfl, rfl⟩ (dev11_eq c) rfl rfl) $$ [HO Hready Hs]
  · iframe Hf HO Hready Hs
  iintro ⟨HO, Hfl6⟩
  iapply (wp_load_out A c _ _) $$ Ho
  iintro Ho
  iapply (wp_store_out A c _ _ 0 3 h3.1 h3.2 rfl rfl _ hv (κ' := ![3, 1, 0, 2, 1, 0]) (by decide)) $$ Ho
  iintro Ho
  iapply (wp_sent64 A K c 5 7 rfl inb_S12x128x512_S1x64x512_5_0_0 inb_S12_S1_5 rfl) $$ [HO Hfl Hat]
  · iframe Hf HO Hfl Hat
  iintro ⟨HO, Hd⟩
  iapply (wp_came64 A K c 5 7 (by decide) rfl inb_S12x128x512_S1x64x512_5_0_0 inb_S12_S1_5 rfl) $$ [HO Hc]
  · iframe Hf HO Hc
  iintro ⟨HO, Hr⟩
  iapply (wp_load_out A c _ _) $$ Ho
  iintro Ho
  iapply (wp_load_rcv A c 5 _ rfl rfl (by decide)) $$ Hr
  iintro Hr
  iapply (wp_load_snd A c 7 _ rfl rfl (by decide)) $$ Hs7
  iintro %_ Hs7
  rw [wp_ret]; imodintro
  iapply Hk
  isplitr
  · ipureintro
    refine ⟨?_, ?_⟩
    · rw [pay42_eq]
      exact join28 A (joins5 c) (by decide) _ _ (out64 A c 3 2 _ h7 le_rfl rfl) (rcv64 A c 5 0 _ ⟨rfl, rfl, rfl⟩)
    · rw [pay44_eq]
      exact join29 A (joins5 c) (by decide) _ _ (out64 A c 3 2 _ h7 le_rfl rfl) (rcv64 A c 5 0 _ ⟨rfl, rfl, rfl⟩) 7 (by decide) rfl rfl
  iframe HO Hfl6 Ho Hd Hr Hs7

/-- Transfer 7 starts with it; transfer 6 has been sent. -/
theorem k0_part18_ok (v28 v113 : BitVec 32) (v397 : FVec F S64x512 .f32) (v398 : FVec F S64x512 .bf16)
    (hv : ∀ x : S64x512.Idx, v397 x = val A 3 c (rb 3 c + (x 0).val) (x 1).val)
    (hw : ∀ x : S1x64x512.Idx, k0_pay44 v398 x = sentAt A c 7 (0 + (x 1).val) (x 2).val) (Kt : _ → sProp 𝕄) :
    iprop(facts A K ∗ owing c 7 ∗ sndHas A c 7 (fun _ => False) ∗ ready c 7 ∗ outPts A c ![3, 1, 0, 2, 1, 0] ∗ flying c 6 ∗ atS c 6
      ∗ (owing c 8 ∗ flying c 7 ∗ outPts A c ![3, 1, 0, 3, 1, 0] ∗ sentDone A c 6 -∗ Kt ⟨⟩))
      ⊢ wp frame (wpE (defs₀ (F := F)) 𝒱₀ (c : Thread nD τ) none) Set.univ (onArgs (k0_part18 (F := F)) c v28 v113 v397 v398) Kt := by
  unfold onArgs
  rw [k0_part18_eq_skeleton]; unfold k0_part18_skel
  simp only [Prog.lift, Prog.bind_op, Prog.bind_ret, Prog.pure_eq_ret]
  have h7 := off_at (off7_eq c)
  iintro ⟨#Hf, HO, Hs, Hready, Ho, Hfl, Hat, Hk⟩
  iapply (wp_fill64 A c 7 rfl _ ⟨rfl, rfl, rfl⟩ _ hw) $$ Hs
  iintro Hs
  iapply (wp_send64 A K c 7 rfl inb_S12x128x512_S1x64x512_7_0_0 inb_S12_S1_7 ⟨rfl, rfl, rfl⟩ (dev12_eq c) rfl rfl) $$ [HO Hready Hs]
  · iframe Hf HO Hready Hs
  iintro ⟨HO, Hfl7⟩
  iapply (wp_load_out A c _ _) $$ Ho
  iintro Ho
  iapply (wp_store_out A c _ _ 3 3 h7.1 h7.2 rfl rfl _ hv (κ' := ![3, 1, 0, 3, 1, 0]) (by decide)) $$ Ho
  iintro Ho
  iapply (wp_sent64 A K c 6 8 rfl inb_S12x128x512_S1x64x512_6_0_0 inb_S12_S1_6 rfl) $$ [HO Hfl Hat]
  · iframe Hf HO Hfl Hat
  iintro ⟨HO, Hd⟩
  rw [wp_ret]; imodintro
  iapply Hk
  iframe HO Hfl7 Ho Hd

/-- Transfer 6 has arrived; the first quarter is complete, sent to the neighbour by transfer 8. -/
theorem k0_part19_ok (v18 v109 : BitVec 32) (Kt : _ → sProp 𝕄) :
    iprop(facts A K ∗ owing c 8 ∗ coming c 6 ∗ outPts A c ![3, 1, 0, 3, 1, 0] ∗ sndHas A c 8 (fun _ => False) ∗ ready c 8
      ∗ (owing c 9 ∗ flying c 8 ∗ outPts A c ![4, 1, 0, 3, 1, 0] ∗ rcvDone A c 6 -∗ Kt ⟨⟩))
      ⊢ wp frame (wpE (defs₀ (F := F)) 𝒱₀ (c : Thread nD τ) none) Set.univ (onArgs (k0_part19 (F := F)) c v18 v109) Kt := by
  unfold onArgs
  rw [k0_part19_eq_skeleton]; unfold k0_part19_skel
  simp only [Prog.lift, Prog.bind_op, Prog.bind_ret, Prog.pure_eq_ret]
  have h3 := off_at (off3_eq c)
  iintro ⟨#Hf, HO, Hc, Ho, Hs, Hready, Hk⟩
  iapply (wp_came64 A K c 6 8 (by decide) rfl inb_S12x128x512_S1x64x512_6_0_0 inb_S12_S1_6 rfl) $$ [HO Hc]
  · iframe Hf HO Hc
  iintro ⟨HO, Hr⟩
  iapply (wp_load_out A c _ _) $$ Ho
  iintro Ho
  iapply (wp_load_rcv A c 6 _ rfl rfl (by decide)) $$ Hr
  iintro Hr
  iapply (wp_load_snd A c 8 _ rfl rfl (by decide)) $$ Hs
  iintro %_ Hs
  iapply (wp_fill64 A c 8 rfl _ ⟨rfl, rfl, rfl⟩ _ (by
    rw [pay46_eq]
    exact join29 A (joins6 c) (by decide) _ _ (out64 A c 0 3 _ h3 le_rfl rfl) (rcv64 A c 6 0 _ ⟨rfl, rfl, rfl⟩) 8 (by decide) rfl rfl)) $$ Hs
  iintro Hs
  iapply (wp_send64 A K c 8 rfl inb_S12x128x512_S1x64x512_8_0_0 inb_S12_S1_8 ⟨rfl, rfl, rfl⟩ (dev13_eq c) rfl rfl) $$ [HO Hready Hs]
  · iframe Hf HO Hready Hs
  iintro ⟨HO, Hfl⟩
  iapply (wp_load_out A c _ _) $$ Ho
  iintro Ho
  iapply (wp_store_out A c _ _ 0 4 h3.1 h3.2 rfl rfl _ (by
    rw [pay45_eq]
    exact join28 A (joins6 c) (by decide) _ _ (out64 A c 0 3 _ h3 le_rfl rfl) (rcv64 A c 6 0 _ ⟨rfl, rfl, rfl⟩)) (κ' := ![4, 1, 0, 3, 1, 0]) (by decide)) $$ Ho
  iintro Ho
  rw [wp_ret]; imodintro
  iapply Hk
  iframe HO Hfl Ho Hr

/-- Transfer 7 has been sent and has arrived; the other quarter is complete, ready for transfer 9. -/
theorem k0_part20_ok (v15 v28 v113 : BitVec 32) (Kt : _ → sProp 𝕄) :
    iprop(facts A K ∗ owing c 9 ∗ flying c 7 ∗ atS c 7 ∗ coming c 7 ∗ outPts A c ![4, 1, 0, 3, 1, 0] ∗ sndHas A c 9 (fun _ => False)
      ∗ (∀ v471 : FVec F S64x512 .f32, iprop(⌜∀ x : S64x512.Idx, v471 x = val A 4 c (rb 3 c + (x 0).val) (x 1).val⌝
          ∗ owing c 9 ∗ sentDone A c 7 ∗ rcvDone A c 7 ∗ outPts A c ![4, 1, 0, 3, 1, 0] ∗ sndPts c 9 (sent A c) -∗ Kt v471)))
      ⊢ wp frame (wpE (defs₀ (F := F)) 𝒱₀ (c : Thread nD τ) none) Set.univ (onArgs (k0_part20 (F := F)) c v15 v28 v113) Kt := by
  unfold onArgs
  rw [k0_part20_eq_skeleton]; unfold k0_part20_skel
  simp only [Prog.lift, Prog.bind_op, Prog.bind_ret, Prog.pure_eq_ret]
  have h7 := off_at (off7_eq c)
  iintro ⟨#Hf, HO, Hfl, Hat, Hc, Ho, Hs, Hk⟩
  iapply (wp_sent64 A K c 7 9 rfl inb_S12x128x512_S1x64x512_7_0_0 inb_S12_S1_7 rfl) $$ [HO Hfl Hat]
  · iframe Hf HO Hfl Hat
  iintro ⟨HO, Hd⟩
  iapply (wp_came64 A K c 7 9 (by decide) rfl inb_S12x128x512_S1x64x512_7_0_0 inb_S12_S1_7 rfl) $$ [HO Hc]
  · iframe Hf HO Hc
  iintro ⟨HO, Hr⟩
  iapply (wp_load_out A c _ _) $$ Ho
  iintro Ho
  iapply (wp_load_rcv A c 7 _ rfl rfl (by decide)) $$ Hr
  iintro Hr
  iapply (wp_load_snd A c 9 _ rfl rfl (by decide)) $$ Hs
  iintro %_ Hs
  iapply (wp_fill64 A c 9 rfl _ ⟨rfl, rfl, rfl⟩ _ (by
    rw [pay48_eq]
    exact join29 A (joins7 c) (by decide) _ _ (out64 A c 3 3 _ h7 le_rfl rfl) (rcv64 A c 7 0 _ ⟨rfl, rfl, rfl⟩) 9 (by decide) rfl rfl)) $$ Hs
  iintro Hs
  rw [wp_ret]; imodintro
  iapply Hk
  isplitr
  · ipureintro; rw [pay47_eq]
    exact join28 A (joins7 c) (by decide) _ _ (out64 A c 3 3 _ h7 le_rfl rfl) (rcv64 A c 7 0 _ ⟨rfl, rfl, rfl⟩)
  iframe HO Hd Hr Ho Hs

end Cert.KI

end
-- ==== Proof.KI.PartsC.lean ====
/- The completed quarters go round the plane: what each device receives, stores and passes on. -/
module

public import proofs.«01_k».proof.Proof.KI.PartsB

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Inp F) (K : Dev nD × Cell → ℕ) (c : Dev nD)

/-- A store of a half that is to be passed on is complete with its two quarters. -/
theorem sndHas_halves (t : Fin 12) (ht : rows t = 128) {a b : ℕ} (h : a = 0 ∧ b = 64 ∨ a = 64 ∧ b = 0) :
    sndHas A c t (fun r => (False ∨ (a ≤ r ∧ r < a + 64)) ∨ (b ≤ r ∧ r < b + 64)) ⊢ sndPts c t (sent A c) :=
  sndHas_all A c t (fun r hr => by rw [ht] at hr; omega)

/-- A store of 64 rows of a half that is to be passed on. -/
theorem wp_half64 (t : Fin 12) (o : ℕ) (ho : o + 64 ≤ rows t) {off : Fin 3 → ℕ} (inb : ∀ a, off a + S1x64x512.size a ≤ S12x128x512.size a)
    (h : off 0 = t.val ∧ off 1 = o ∧ off 2 = 0) {P : ℕ → Prop} (w : S1x64x512.Idx → Elt F .bf16) (hw : ∀ x : S1x64x512.Idx, w x = sentAt A c t (o + (x 1).val) (x 2).val)
    {hx : ((sM : Memref sig .tc .vmem S12x128x512 .bf16).access (Rect.unit (s := S12x128x512) off S1x64x512.size inb)).Stores Finset.univ}
    {hm : (Finset.univ : Finset (Rect.unit (s := S12x128x512) off S1x64x512.size inb).shape.Idx) = Finset.univ ∨ ∀ a, (Rect.unit (s := S12x128x512) off S1x64x512.size inb).stride a = 1}
    {α : Type} {Q : α → sProp 𝕄} {k : PUnit → Prog (TpuEff nD τ sig (Elt F) Λ₀ .tc) α} :
    sndHas A c t P ⊢ iprop((sndHas A c t (fun r => P r ∨ (o ≤ r ∧ r < o + 64)) -∗ wp frame (wpE (defs₀ (F := F)) 𝒱₀ (c : Thread nD τ) none) Set.univ (k ⟨⟩) Q)
      -∗ wp frame (wpE (defs₀ (F := F)) 𝒱₀ (c : Thread nD τ) none) Set.univ
          (.op (.store sM (Rect.unit (s := S12x128x512) off S1x64x512.size inb) w Finset.univ hx hm) k) Q) :=
  wp_store_snd A c t inb o h.1 h.2.1 h.2.2 rfl ho rfl w hw

/-- 128 rows of what transfer `s` brought. -/
theorem rcv128 (s : Fin 12) {off : Fin 3 → ℕ} (inb : ∀ a, off a + S1x128x512.size a ≤ S12x128x512.size a)
    (h : off 0 = s.val ∧ off 1 = 0 ∧ off 2 = 0) (x : S1x128x512.Idx) :
    (rM : Memref sig .tc .vmem S12x128x512 .bf16).view.readAt (Elt F) (Rect.unit (s := S12x128x512) off S1x128x512.size inb).toLoadRect (sent A (pr s c)) x
      = sentAt A (pr s c) s (0 + (x 1).val) (x 2).val :=
  rcv_read A (pr s c) s 0 inb h.1 h.2.1 h.2.2 rfl x

/-- Transfer 9 starts; transfer 8 has been sent and has arrived; the own quarter goes into the half that transfer 10 carries. -/
theorem k0_part21_ok (v5 v18 v109 v113 : BitVec 32) (v471 : FVec F S64x512 .f32)
    (hv : ∀ x : S64x512.Idx, v471 x = val A 4 c (rb 3 c + (x 0).val) (x 1).val) (Kt : _ → sProp 𝕄) :
    iprop(facts A K ∗ owing c 9 ∗ sndPts c 9 (sent A c) ∗ ready c 9 ∗ outPts A c ![4, 1, 0, 3, 1, 0] ∗ flying c 8 ∗ atS c 8 ∗ coming c 8 ∗ sndHas A c 10 (fun _ => False)
      ∗ (∀ (v512 : FVec F S64x512 .bf16) (w : BitVec 32), iprop(⌜∀ x : S1x64x512.Idx, k0_pay51 v512 x = sentAt A c 10 ((64 - 64 * by' c) + (x 1).val) (x 2).val⌝
          ∗ owing c 10 ∗ flying c 9 ∗ outPts A c ![4, 1, 0, 4, 1, 0] ∗ sentDone A c 8 ∗ rcvDone A c 8
          ∗ sndHas A c 10 (fun r => False ∨ (64 * by' c ≤ r ∧ r < 64 * by' c + 64)) -∗ Kt ⟨v512, w⟩)))
      ⊢ wp frame (wpE (defs₀ (F := F)) 𝒱₀ (c : Thread nD τ) none) Set.univ (onArgs (k0_part21 (F := F)) c v5 v18 v109 v113 v471) Kt := by
  unfold onArgs
  rw [k0_part21_eq_skeleton]; unfold k0_part21_skel
  simp only [Prog.lift, Prog.bind_op, Prog.bind_ret, Prog.pure_eq_ret]
  have h3 := off_at (off3_eq c)
  have h7 := off_at (off7_eq c)
  have h9 := off_at3 (off9_eq c)
  have hb := by_lt c
  iintro ⟨#Hf, HO, Hs, Hready, Ho, Hfl, Hat, Hc, Hs10, Hk⟩
  iapply (wp_send64 A K c 9 rfl inb_S12x128x512_S1x64x512_9_0_0 inb_S12_S1_9 ⟨rfl, rfl, rfl⟩ (dev14_eq c) rfl rfl) $$ [HO Hready Hs]
  · iframe Hf HO Hready Hs
  iintro ⟨HO, Hfl9⟩
  iapply (wp_load_out A c _ _) $$ Ho
  iintro Ho
  iapply (wp_store_out A c _ _ 3 4 h7.1 h7.2 rfl rfl _ hv (κ' := ![4, 1, 0, 4, 1, 0]) (by decide)) $$ Ho
  iintro Ho
  iapply (wp_sent64 A K c 8 10 rfl inb_S12x128x512_S1x64x512_8_0_0 inb_S12_S1_8 rfl) $$ [HO Hfl Hat]
  · iframe Hf HO Hfl Hat
  iintro ⟨HO, Hd⟩
  iapply (wp_came64 A K c 8 10 (by decide) rfl inb_S12x128x512_S1x64x512_8_0_0 inb_S12_S1_8 rfl) $$ [HO Hc]
  · iframe Hf HO Hc
  iintro ⟨HO, Hr⟩
  iapply (wp_load_out A c _ _) $$ Ho
  iintro Ho
  iapply (wp_load_snd A c 10 _ h9.1 rfl (by rw [h9.2.1]; show 64 * by' c + 64 ≤ 128; omega)) $$ Hs10
  iintro %_ Hs10
  iapply (wp_half64 A c 10 (64 * by' c) (by show 64 * by' c + 64 ≤ 128; omega) _ h9 _
    (pass49 A (ρ := 0) (by decide) (fun r j h => res4 A c r j h) rfl _ (out64 A c 0 4 _ h3 le_rfl rfl))) $$ Hs10
  iintro Hs10
  iapply (wp_load_rcv A c 8 _ rfl rfl (by decide)) $$ Hr
  iintro Hr
  rw [wp_ret]; imodintro
  iapply Hk
  isplitr
  · ipureintro; rw [pay51_eq]
    exact pass54 A (by decide) (got8 A c) (by show 128 * bx c + (64 - 64 * by' c) = 128 * bx c + 64 - 64 * by' c; omega) _ (rcv64 A c 8 0 _ ⟨rfl, rfl, rfl⟩)
  iframe HO Hfl9 Ho Hd Hr Hs10

/-- The other quarter completes the half; transfer 10 starts; the neighbour's quarter is stored. -/
theorem k0_part22_ok (v5 v15 v107 : BitVec 32) (v512 : FVec F S64x512 .bf16) (w : BitVec 32)
    (hv : ∀ x : S1x64x512.Idx, k0_pay51 v512 x = sentAt A c 10 ((64 - 64 * by' c) + (x 1).val) (x 2).val) (Kt : _ → sProp 𝕄) :
    iprop(facts A K ∗ owing c 10 ∗ sndHas A c 10 (fun r => False ∨ (64 * by' c ≤ r ∧ r < 64 * by' c + 64)) ∗ ready c 10 ∗ rcvDone A c 8 ∗ outPts A c ![4, 1, 0, 4, 1, 0]
      ∗ (owing c 11 ∗ flying c 10 ∗ rcvDone A c 8 ∗ outPts A c ![4, 5, 0, 4, 1, 0] -∗ Kt ⟨⟩))
      ⊢ wp frame (wpE (defs₀ (F := F)) 𝒱₀ (c : Thread nD τ) none) Set.univ (onArgs (k0_part22 (F := F)) c v5 v15 v107 v512 w) Kt := by
  unfold onArgs
  rw [k0_part22_eq_skeleton]; unfold k0_part22_skel
  simp only [Prog.lift, Prog.bind_op, Prog.bind_ret, Prog.pure_eq_ret]
  have h1 := off_at (off1_eq c)
  have h10 := off_at3 (off10_eq c)
  have hb := by_lt c
  iintro ⟨#Hf, HO, Hs, Hready, Hr, Ho, Hk⟩
  iapply (wp_load_snd A c 10 _ h10.1 rfl (by rw [h10.2.1]; show 64 - 64 * by' c + 64 ≤ 128; omega)) $$ Hs
  iintro %_ Hs
  iapply (wp_half64 A c 10 (64 - 64 * by' c) (by show 64 - 64 * by' c + 64 ≤ 128; omega) _ h10 _ hv) $$ Hs
  iintro Hs
  ihave Hs := (sndHas_halves A c 10 rfl (show 64 * by' c = 0 ∧ 64 - 64 * by' c = 64 ∨ 64 * by' c = 64 ∧ 64 - 64 * by' c = 0 by omega)) $$ Hs
  iapply (wp_send128 A K c 10 rfl inb_S12x128x512_S1x128x512_10_0_0 inb_S12_S1_10 ⟨rfl, rfl, rfl⟩ (dev15_eq c) rfl rfl) $$ [HO Hready Hs]
  · iframe Hf HO Hready Hs
  iintro ⟨HO, Hfl⟩
  iapply (wp_load_rcv A c 8 _ rfl rfl (by decide)) $$ Hr
  iintro Hr
  iapply (wp_load_out A c _ _) $$ Ho
  iintro Ho
  iapply (wp_store_out A c _ _ 1 5 h1.1 h1.2 rfl rfl _ (put52 A (s := 8) (ρ := 1) (got8 A c) _ (rcv64 A c 8 0 _ ⟨rfl, rfl, rfl⟩)) (κ' := ![4, 5, 0, 4, 1, 0]) (by decide)) $$ Ho
  iintro Ho
  rw [wp_ret]; imodintro
  iapply Hk
  iframe HO Hfl Hr Ho

/-- Transfer 9 has been sent and has arrived; both quarters of the half that transfer 11 carries. -/
theorem k0_part23_ok (v7 v15 v18 v113 : BitVec 32) (Kt : _ → sProp 𝕄) :
    iprop(facts A K ∗ owing c 11 ∗ flying c 9 ∗ atS c 9 ∗ coming c 9 ∗ outPts A c ![4, 5, 0, 4, 1, 0] ∗ sndHas A c 11 (fun _ => False)
      ∗ (owing c 11 ∗ sentDone A c 9 ∗ rcvDone A c 9 ∗ outPts A c ![4, 5, 0, 4, 1, 0] ∗ sndPts c 11 (sent A c) -∗ Kt ⟨⟩))
      ⊢ wp frame (wpE (defs₀ (F := F)) 𝒱₀ (c : Thread nD τ) none) Set.univ (onArgs (k0_part23 (F := F)) c v7 v15 v18 v113) Kt := by
  unfold onArgs
  rw [k0_part23_eq_skeleton]; unfold k0_part23_skel
  simp only [Prog.lift, Prog.bind_op, Prog.bind_ret, Prog.pure_eq_ret]
  have h7 := off_at (off7_eq c)
  have h11 := off_at3 (off11_eq c)
  have h12 := off_at3 (off12_eq c)
  have hb := bx_lt c
  iintro ⟨#Hf, HO, Hfl, Hat, Hc, Ho, Hs, Hk⟩
  iapply (wp_sent64 A K c 9 11 rfl inb_S12x128x512_S1x64x512_9_0_0 inb_S12_S1_9 rfl) $$ [HO Hfl Hat]
  · iframe Hf HO Hfl Hat
  iintro ⟨HO, Hd⟩
  iapply (wp_came64 A K c 9 11 (by decide) rfl inb_S12x128x512_S1x64x512_9_0_0 inb_S12_S1_9 rfl) $$ [HO Hc]
  · iframe Hf HO Hc
  iintro ⟨HO, Hr⟩
  iapply (wp_load_out A c _ _) $$ Ho
  iintro Ho
  iapply (wp_load_snd A c 11 _ h11.1 rfl (by rw [h11.2.1]; show 64 * bx c + 64 ≤ 128; omega)) $$ Hs
  iintro %_ Hs
  iapply (wp_half64 A c 11 (64 * bx c) (by show 64 * bx c + 64 ≤ 128; omega) _ h11 _ (by
    rw [pay53_eq]
    exact pass49 A (ρ := 3) (by decide) (fun r j h => res5 A c r j h) rfl _ (out64 A c 3 4 _ h7 le_rfl rfl))) $$ Hs
  iintro Hs
  iapply (wp_load_rcv A c 9 _ rfl rfl (by decide)) $$ Hr
  iintro Hr
  iapply (wp_load_snd A c 11 _ h12.1 rfl (by rw [h12.2.1]; show 64 - 64 * bx c + 64 ≤ 128; omega)) $$ Hs
  iintro %_ Hs
  iapply (wp_half64 A c 11 (64 - 64 * bx c) (by show 64 - 64 * bx c + 64 ≤ 128; omega) _ h12 _
    (pass54 A (by decide) (got9 A c) (by show 256 + 128 * by' c + (64 - 64 * bx c) = 256 + 128 * by' c + 64 - 64 * bx c; omega) _ (rcv64 A c 9 0 _ ⟨rfl, rfl, rfl⟩))) $$ Hs
  iintro Hs
  ihave Hs := (sndHas_halves A c 11 rfl (show 64 * bx c = 0 ∧ 64 - 64 * bx c = 64 ∨ 64 * bx c = 64 ∧ 64 - 64 * bx c = 0 by omega)) $$ Hs
  rw [wp_ret]; imodintro
  iapply Hk
  iframe HO Hd Hr Ho Hs

/-- Transfer 11 starts; the quarter that transfer 9 brought is stored; transfer 10 has been sent. -/
theorem k0_part24_ok (v7 v15 v111 : BitVec 32) (Kt : _ → sProp 𝕄) :
    iprop(facts A K ∗ owing c 11 ∗ sndPts c 11 (sent A c) ∗ ready c 11 ∗ rcvDone A c 9 ∗ outPts A c ![4, 5, 0, 4, 1, 0] ∗ flying c 10 ∗ atS c 10
      ∗ (owing c 12 ∗ flying c 11 ∗ rcvDone A c 9 ∗ outPts A c ![4, 5, 0, 4, 5, 0] ∗ sentDone A c 10 -∗ Kt ⟨⟩))
      ⊢ wp frame (wpE (defs₀ (F := F)) 𝒱₀ (c : Thread nD τ) none) Set.univ (onArgs (k0_part24 (F := F)) c v7 v15 v111) Kt := by
  unfold onArgs
  rw [k0_part24_eq_skeleton]; unfold k0_part24_skel
  simp only [Prog.lift, Prog.bind_op, Prog.bind_ret, Prog.pure_eq_ret]
  have h5 := off_at (off5_eq c)
  iintro ⟨#Hf, HO, Hs, Hready, Hr, Ho, Hfl, Hat, Hk⟩
  iapply (wp_send128 A K c 11 rfl inb_S12x128x512_S1x128x512_11_0_0 inb_S12_S1_11 ⟨rfl, rfl, rfl⟩ (dev16_eq c) rfl rfl) $$ [HO Hready Hs]
  · iframe Hf HO Hready Hs
  iintro ⟨HO, Hfl11⟩
  iapply (wp_load_rcv A c 9 _ rfl rfl (by decide)) $$ Hr
  iintro Hr
  iapply (wp_load_out A c _ _) $$ Ho
  iintro Ho
  iapply (wp_store_out A c _ _ 4 5 h5.1 h5.2 rfl rfl _ (by
    rw [pay55_eq]
    exact put52 A (s := 9) (ρ := 4) (got9 A c) _ (rcv64 A c 9 0 _ ⟨rfl, rfl, rfl⟩)) (κ' := ![4, 5, 0, 4, 5, 0]) (by decide)) $$ Ho
  iintro Ho
  iapply (wp_sent128 A K c 10 12 rfl inb_S12x128x512_S1x128x512_10_0_0 inb_S12_S1_10 rfl) $$ [HO Hfl Hat]
  · iframe Hf HO Hfl Hat
  iintro ⟨HO, Hd⟩
  rw [wp_ret]; imodintro
  iapply Hk
  iframe HO Hfl11 Hr Ho Hd

/-- Transfers 10 and 11 have arrived: the halves the neighbours completed. -/
theorem k0_part25_ok (v5 v7 v18 : BitVec 32) (Kt : _ → sProp 𝕄) :
    iprop(facts A K ∗ owing c 12 ∗ coming c 10 ∗ outPts A c ![4, 5, 0, 4, 5, 0] ∗ flying c 11 ∗ atS c 11 ∗ coming c 11
      ∗ (∀ (v623 : FVec F S128x512 .f32) (v624 w : BitVec 32), iprop(⌜∀ x : S128x512.Idx, v623 x = val A 5 c (rb 5 c + (x 0).val) (x 1).val⌝
          ∗ owing c 12 ∗ rcvDone A c 10 ∗ outPts A c ![4, 5, 5, 4, 5, 0] ∗ sentDone A c 11 ∗ rcvDone A c 11 -∗ Kt ⟨v623, v624, w⟩)))
      ⊢ wp frame (wpE (defs₀ (F := F)) 𝒱₀ (c : Thread nD τ) none) Set.univ (onArgs (k0_part25 (F := F)) c v5 v7 v18) Kt := by
  unfold onArgs
  rw [k0_part25_eq_skeleton]; unfold k0_part25_skel
  simp only [Prog.lift, Prog.bind_op, Prog.bind_ret, Prog.pure_eq_ret]
  have h13 := off_at (off13_eq c)
  iintro ⟨#Hf, HO, Hc, Ho, Hfl, Hat, Hc11, Hk⟩
  iapply (wp_came128 A K c 10 12 (by decide) rfl inb_S12x128x512_S1x128x512_10_0_0 inb_S12_S1_10 rfl) $$ [HO Hc]
  · iframe Hf HO Hc
  iintro ⟨HO, Hr⟩
  iapply (wp_load_rcv A c 10 _ rfl rfl (by decide)) $$ Hr
  iintro Hr
  iapply (wp_load_out A c _ _) $$ Ho
  iintro Ho
  iapply (wp_store_out A c _ _ 2 5 h13.1 h13.2 rfl rfl _ (put56 A (s := 10) (ρ := 2) (got10 A c) _ (rcv128 A c 10 _ ⟨rfl, rfl, rfl⟩)) (κ' := ![4, 5, 5, 4, 5, 0]) (by decide)) $$ Ho
  iintro Ho
  iapply (wp_sent128 A K c 11 12 rfl inb_S12x128x512_S1x128x512_11_0_0 inb_S12_S1_11 rfl) $$ [HO Hfl Hat]
  · iframe Hf HO Hfl Hat
  iintro ⟨HO, Hd⟩
  iapply (wp_came128 A K c 11 12 (by decide) rfl inb_S12x128x512_S1x128x512_11_0_0 inb_S12_S1_11 rfl) $$ [HO Hc11]
  · iframe Hf HO Hc11
  iintro ⟨HO, Hr11⟩
  iapply (wp_load_rcv A c 11 _ rfl rfl (by decide)) $$ Hr11
  iintro Hr11
  rw [wp_ret]; imodintro
  iapply Hk
  isplitr
  · ipureintro; rw [pay57_eq]
    exact put56 A (s := 11) (ρ := 5) (got11 A c) _ (rcv128 A c 11 _ ⟨rfl, rfl, rfl⟩)
  iframe HO Hr Ho Hd Hr11

end Cert.KI

end
-- ==== Proof.KI.Blocks.lean ====
/- The start: the barrier, the gates, the four blocks of the partial result, the two first transfers. -/
module

public import proofs.«01_k».proof.Proof.KI.PartsC

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Inp F) (K : Dev nD × Cell → ℕ) (c : Dev nD)

/-! ## The partial result, a block at a time -/

/-- Row `r` of block `b` of the partial result is row `128 b + r` of it. -/
theorem part_at (b : ℕ) (r : Fin 128) (j : Fin 512) : part A c (128 * b + r.val) j.val = blk A c b (ix2 r j) := by
  unfold part
  rw [show (128 * b + r.val) / 128 = b by have := r.isLt; omega]
  congr 1
  unfold at128
  congr 1 <;> apply Fin.ext <;> simp [Nat.mul_add_mod, Nat.mod_eq_of_lt]

/-- What a first transfer carries is the rounded block of the partial result. -/
theorem sent_first (s : Fin 12) (hs : s.val < 2) {b : ℕ} (hb : base s c = 128 * b) (v : FVec F S128x512 .bf16)
    (hv : ∀ x : S128x512.Idx, v x = narrow (blk A c b x)) (x : S1x128x512.Idx) :
    k0_pay20 v x = sentAt A c s (0 + (x 1).val) (x 2).val := by
  obtain ⟨r, j, rfl⟩ := ex3 x
  rw [pay20_at, hv, Nat.zero_add]
  unfold sentAt
  rw [if_pos (by omega), hb, show s.val / 2 = 0 by omega]
  exact congrArg narrow (part_at A c b r j).symm

/-- An expert's matrix as loaded. -/
theorem exp_read (E : Vec F S4x256x512 .f32) (k : ℕ) (inb : ∀ a, (![k, 0, 0] : Fin 3 → ℕ) a + S1x256x512.size a ≤ S4x256x512.size a) :
    (eM : Memref sig .tc .vmem S4x256x512 .f32).view.readAt (Elt F) (Rect.unit (s := S4x256x512) ![k, 0, 0] S1x256x512.size inb).toLoadRect E = exq E k inb := by
  funext x; rfl
/-- A load of an expert's matrix reads that expert's. -/
theorem wp_load_exp (k : ℕ) (inb : ∀ a, (![k, 0, 0] : Fin 3 → ℕ) a + S1x256x512.size a ≤ S4x256x512.size a)
    {hl : (eM : Memref sig .tc .vmem S4x256x512 .f32).view.LoadsAt (Rect.unit (s := S4x256x512) ![k, 0, 0] S1x256x512.size inb).toLoadRect}
    {α : Type} {Q : α → sProp 𝕄} {kk : Vec F S1x256x512 .f32 → Prog (TpuEff nD τ sig (Elt F) Λ₀ .tc) α} :
    ePts A c ⊢ iprop((ePts A c -∗ wp frame (wpE (defs₀ (F := F)) 𝒱₀ (c : Thread nD τ) none) Set.univ (kk (exq (A.e c) k inb)) Q)
      -∗ wp frame (wpE (defs₀ (F := F)) 𝒱₀ (c : Thread nD τ) none) Set.univ
          (.op (.load eM (Rect.unit (s := S4x256x512) ![k, 0, 0] S1x256x512.size inb).toLoadRect hl) kk) Q) := by
  unfold ePts
  rw [← exp_read]
  exact wp_load 𝒱₀ (c : Thread nD τ) none Set.univ (m := eM) (Finset.subset_univ _)

/-- The experts' matrices are loaded and a block of the partial result is stored. -/
theorem wp_block (b o : ℕ) (ho : o = 128 * b) {off : Fin 2 → ℕ} (inb : ∀ a, off a + S128x512.size a ≤ S512x512.size a) (h : off 0 = o ∧ off 1 = 0)
    (f : Vec F S1x256x512 .f32 → Vec F S1x256x512 .f32 → Vec F S1x256x512 .f32 → Vec F S1x256x512 .f32 → FVec F S128x512 .f32)
    (hf : f (e0 A c) (e1 A c) (e2 A c) (e3 A c) = blk A c b) {P : ℕ → Prop}
    {hl0 : (eM : Memref sig .tc .vmem S4x256x512 .f32).view.LoadsAt (Rect.unit (s := S4x256x512) ![0, 0, 0] S1x256x512.size inb_S4x256x512_S1x256x512_0_0_0).toLoadRect}
    {hl1 : (eM : Memref sig .tc .vmem S4x256x512 .f32).view.LoadsAt (Rect.unit (s := S4x256x512) ![1, 0, 0] S1x256x512.size inb_S4x256x512_S1x256x512_1_0_0).toLoadRect}
    {hl2 : (eM : Memref sig .tc .vmem S4x256x512 .f32).view.LoadsAt (Rect.unit (s := S4x256x512) ![2, 0, 0] S1x256x512.size inb_S4x256x512_S1x256x512_2_0_0).toLoadRect}
    {hl3 : (eM : Memref sig .tc .vmem S4x256x512 .f32).view.LoadsAt (Rect.unit (s := S4x256x512) ![3, 0, 0] S1x256x512.size inb_S4x256x512_S1x256x512_3_0_0).toLoadRect}
    {hl : (oM : Memref sig .tc .vmem S512x512 .f32).view.LoadsAt (Rect.unit (s := S512x512) off S128x512.size inb).toLoadRect}
    {hx : ((oM : Memref sig .tc .vmem S512x512 .f32).access (Rect.unit (s := S512x512) off S128x512.size inb)).Stores Finset.univ}
    {hm : (Finset.univ : Finset (Rect.unit (s := S512x512) off S128x512.size inb).shape.Idx) = Finset.univ ∨ ∀ a, (Rect.unit (s := S512x512) off S128x512.size inb).stride a = 1}
    {α : Type} {Q : α → sProp 𝕄}
    {k : Vec F S1x256x512 .f32 → Vec F S1x256x512 .f32 → Vec F S1x256x512 .f32 → Vec F S1x256x512 .f32 → Prog (TpuEff nD τ sig (Elt F) Λ₀ .tc) α} :
    iprop(ePts A c ∗ outHas A c P)
      ⊢ iprop((ePts A c ∗ outHas A c (fun r => P r ∨ (o ≤ r ∧ r < o + 128))
          -∗ wp frame (wpE (defs₀ (F := F)) 𝒱₀ (c : Thread nD τ) none) Set.univ (k (e0 A c) (e1 A c) (e2 A c) (e3 A c)) Q)
      -∗ wp frame (wpE (defs₀ (F := F)) 𝒱₀ (c : Thread nD τ) none) Set.univ
          (.op (.load eM (Rect.unit (s := S4x256x512) ![0, 0, 0] S1x256x512.size inb_S4x256x512_S1x256x512_0_0_0).toLoadRect hl0) fun v0 =>
           .op (.load eM (Rect.unit (s := S4x256x512) ![1, 0, 0] S1x256x512.size inb_S4x256x512_S1x256x512_1_0_0).toLoadRect hl1) fun v1 =>
           .op (.load eM (Rect.unit (s := S4x256x512) ![2, 0, 0] S1x256x512.size inb_S4x256x512_S1x256x512_2_0_0).toLoadRect hl2) fun v2 =>
           .op (.load eM (Rect.unit (s := S4x256x512) ![3, 0, 0] S1x256x512.size inb_S4x256x512_S1x256x512_3_0_0).toLoadRect hl3) fun v3 =>
           .op (.load oM (Rect.unit (s := S512x512) off S128x512.size inb).toLoadRect hl) fun _ =>
           .op (.store oM (Rect.unit (s := S512x512) off S128x512.size inb) (f v0 v1 v2 v3) Finset.univ hx hm) fun _ => k v0 v1 v2 v3) Q) := by
  subst ho
  iintro ⟨He, Ho⟩ Hk
  iapply (wp_load_exp A c 0 _) $$ He
  iintro He
  iapply (wp_load_exp A c 1 _) $$ He
  iintro He
  iapply (wp_load_exp A c 2 _) $$ He
  iintro He
  iapply (wp_load_exp A c 3 _) $$ He
  iintro He
  iapply (wp_load_any A c _) $$ Ho
  iintro %_ Ho
  iapply (wp_store_part A c inb (128 * b) h.1 h.2 rfl _ (by
    intro x
    obtain ⟨r, j, rfl⟩ : ∃ (r : Fin 128) (j : Fin 512), x = ix2 r j := ex2 x
    exact (congrFun hf _).trans (part_at A c b r j).symm)) $$ Ho
  iintro Ho
  iapply Hk
  iframe He Ho

/-- A store of all 128 rows a transfer carries. -/
theorem wp_fill128 (t : Fin 12) (ht : rows t = 128) {off : Fin 3 → ℕ} (inb : ∀ a, off a + S1x128x512.size a ≤ S12x128x512.size a)
    (h : off 0 = t.val ∧ off 1 = 0 ∧ off 2 = 0) (w : S1x128x512.Idx → Elt F .bf16) (hw : ∀ x : S1x128x512.Idx, w x = sentAt A c t (0 + (x 1).val) (x 2).val)
    {hx : ((sM : Memref sig .tc .vmem S12x128x512 .bf16).access (Rect.unit (s := S12x128x512) off S1x128x512.size inb)).Stores Finset.univ}
    {hm : (Finset.univ : Finset (Rect.unit (s := S12x128x512) off S1x128x512.size inb).shape.Idx) = Finset.univ ∨ ∀ a, (Rect.unit (s := S12x128x512) off S1x128x512.size inb).stride a = 1}
    {α : Type} {Q : α → sProp 𝕄} {k : PUnit → Prog (TpuEff nD τ sig (Elt F) Λ₀ .tc) α} :
    sndHas A c t (fun _ => False) ⊢ iprop((sndPts c t (sent A c) -∗ wp frame (wpE (defs₀ (F := F)) 𝒱₀ (c : Thread nD τ) none) Set.univ (k ⟨⟩) Q)
      -∗ wp frame (wpE (defs₀ (F := F)) 𝒱₀ (c : Thread nD τ) none) Set.univ
          (.op (.store sM (Rect.unit (s := S12x128x512) off S1x128x512.size inb) w Finset.univ hx hm) k) Q) := by
  iintro Hs Hk
  iapply (wp_store_snd A c t inb 0 h.1 h.2.1 h.2.2 rfl (by rw [ht]; exact le_rfl) rfl w hw) $$ Hs
  iintro Hs
  iapply Hk
  iapply (sndHas_all A c t (fun r hr => .inr ⟨Nat.zero_le _, by rw [ht] at hr; exact hr⟩)) $$ Hs

/-- The block that goes out first is stored and rounded, for a device whose first block is the rows from 0 on. -/
theorem k0_part1_ok (hb : base 0 c = 0) {P : ℕ → Prop} (Kt : _ → sProp 𝕄) :
    iprop(ePts A c ∗ outHas A c P ∗ sndHas A c 0 (fun _ => False)
      ∗ (∀ v : FVec F S128x512 .bf16, iprop(⌜∀ x : S1x128x512.Idx, k0_pay20 v x = sentAt A c 0 (0 + (x 1).val) (x 2).val⌝
        ∗ ePts A c ∗ outHas A c (fun r => P r ∨ (base 0 c ≤ r ∧ r < base 0 c + 128)) ∗ sndHas A c 0 (fun _ => False) -∗ Kt v)))
      ⊢ wp frame (wpE (defs₀ (F := F)) 𝒱₀ (c : Thread nD τ) none) Set.univ
          (onArgs (k0_part1 (F := F)) (k0_pay9 (A.x c)) (g0 A c) (g1 A c) (g2 A c) (g3 A c)) Kt := by
  unfold onArgs
  rw [k0_part1_eq_skeleton]; unfold k0_part1_skel
  simp only [Prog.lift, Prog.bind_op, Prog.bind_ret, Prog.pure_eq_ret]
  iintro ⟨He, Ho, Hs, Hk⟩
  iapply (wp_block A c 0 (base 0 c) (by rw [hb]) _ ⟨hb.symm, rfl⟩ _ rfl) $$ [He Ho]
  · iframe He Ho
  iintro ⟨He, Ho⟩
  iapply (wp_load_snd A c 0 _ rfl rfl (by decide)) $$ Hs
  iintro %_ Hs
  rw [wp_ret]; imodintro
  iapply Hk
  isplitr
  · ipureintro; exact sent_first A c 0 (by decide) (b := 0) hb _ (fun x => rfl)
  iframe He Ho Hs

/-- The same, for a device whose first block is the rows from 128 on. -/
theorem k0_part2_ok (hb : base 0 c = 128) {P : ℕ → Prop} (Kt : _ → sProp 𝕄) :
    iprop(ePts A c ∗ outHas A c P ∗ sndHas A c 0 (fun _ => False)
      ∗ (∀ v : FVec F S128x512 .bf16, iprop(⌜∀ x : S1x128x512.Idx, k0_pay20 v x = sentAt A c 0 (0 + (x 1).val) (x 2).val⌝
        ∗ ePts A c ∗ outHas A c (fun r => P r ∨ (base 0 c ≤ r ∧ r < base 0 c + 128)) ∗ sndHas A c 0 (fun _ => False) -∗ Kt v)))
      ⊢ wp frame (wpE (defs₀ (F := F)) 𝒱₀ (c : Thread nD τ) none) Set.univ
          (onArgs (k0_part2 (F := F)) (k0_pay9 (A.x c)) (g0 A c) (g1 A c) (g2 A c) (g3 A c)) Kt := by
  unfold onArgs
  rw [k0_part2_eq_skeleton]; unfold k0_part2_skel
  simp only [Prog.lift, Prog.bind_op, Prog.bind_ret, Prog.pure_eq_ret]
  iintro ⟨He, Ho, Hs, Hk⟩
  iapply (wp_block A c 1 (base 0 c) (by rw [hb]) _ ⟨hb.symm, rfl⟩ _ rfl) $$ [He Ho]
  · iframe He Ho
  iintro ⟨He, Ho⟩
  iapply (wp_load_snd A c 0 _ rfl rfl (by decide)) $$ Hs
  iintro %_ Hs
  rw [wp_ret]; imodintro
  iapply Hk
  isplitr
  · ipureintro; exact sent_first A c 0 (by decide) (b := 1) hb _ (fun x => rfl)
  iframe He Ho Hs

/-- The block that goes out second, for a device where it is the rows from 256 on. -/
theorem k0_part3_ok (hb : base 1 c = 256) {P : ℕ → Prop} (Kt : _ → sProp 𝕄) :
    iprop(ePts A c ∗ outHas A c P ∗ sndHas A c 1 (fun _ => False)
      ∗ (∀ v : FVec F S128x512 .bf16, iprop(⌜∀ x : S1x128x512.Idx, k0_pay20 v x = sentAt A c 1 (0 + (x 1).val) (x 2).val⌝
        ∗ ePts A c ∗ outHas A c (fun r => P r ∨ (base 1 c ≤ r ∧ r < base 1 c + 128)) ∗ sndHas A c 1 (fun _ => False) -∗ Kt v)))
      ⊢ wp frame (wpE (defs₀ (F := F)) 𝒱₀ (c : Thread nD τ) none) Set.univ
          (onArgs (k0_part3 (F := F)) (k0_pay9 (A.x c)) (g0 A c) (g1 A c) (g2 A c) (g3 A c)) Kt := by
  unfold onArgs
  rw [k0_part3_eq_skeleton]; unfold k0_part3_skel
  simp only [Prog.lift, Prog.bind_op, Prog.bind_ret, Prog.pure_eq_ret]
  iintro ⟨He, Ho, Hs, Hk⟩
  iapply (wp_block A c 2 (base 1 c) (by rw [hb]) _ ⟨hb.symm, rfl⟩ _ rfl) $$ [He Ho]
  · iframe He Ho
  iintro ⟨He, Ho⟩
  iapply (wp_load_snd A c 1 _ rfl rfl (by decide)) $$ Hs
  iintro %_ Hs
  rw [wp_ret]; imodintro
  iapply Hk
  isplitr
  · ipureintro; exact sent_first A c 1 (by decide) (b := 2) hb _ (fun x => rfl)
  iframe He Ho Hs

/-- The same, where it is the rows from 384 on. -/
theorem k0_part4_ok (hb : base 1 c = 384) {P : ℕ → Prop} (Kt : _ → sProp 𝕄) :
    iprop(ePts A c ∗ outHas A c P ∗ sndHas A c 1 (fun _ => False)
      ∗ (∀ v : FVec F S128x512 .bf16, iprop(⌜∀ x : S1x128x512.Idx, k0_pay20 v x = sentAt A c 1 (0 + (x 1).val) (x 2).val⌝
        ∗ ePts A c ∗ outHas A c (fun r => P r ∨ (base 1 c ≤ r ∧ r < base 1 c + 128)) ∗ sndHas A c 1 (fun _ => False) -∗ Kt v)))
      ⊢ wp frame (wpE (defs₀ (F := F)) 𝒱₀ (c : Thread nD τ) none) Set.univ
          (onArgs (k0_part4 (F := F)) (k0_pay9 (A.x c)) (g0 A c) (g1 A c) (g2 A c) (g3 A c)) Kt := by
  unfold onArgs
  rw [k0_part4_eq_skeleton]; unfold k0_part4_skel
  simp only [Prog.lift, Prog.bind_op, Prog.bind_ret, Prog.pure_eq_ret]
  iintro ⟨He, Ho, Hs, Hk⟩
  iapply (wp_block A c 3 (base 1 c) (by rw [hb]) _ ⟨hb.symm, rfl⟩ _ rfl) $$ [He Ho]
  · iframe He Ho
  iintro ⟨He, Ho⟩
  iapply (wp_load_snd A c 1 _ rfl rfl (by decide)) $$ Hs
  iintro %_ Hs
  rw [wp_ret]; imodintro
  iapply Hk
  isplitr
  · ipureintro; exact sent_first A c 1 (by decide) (b := 3) hb _ (fun x => rfl)
  iframe He Ho Hs

end Cert.KI

end
-- ==== Proof.KI.Start.lean ====
/- The start: the barrier, the gates, the two first transfers, the partial result complete. -/
module

public import proofs.«01_k».proof.Proof.KI.Blocks
public import Idealize.ShloMosaic.Lib.VecWindow

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Cell → ℕ) (c : Dev nD)

/-- The activations, whole. -/
def xPts (c : Dev nD) : sProp 𝕄 := ((c : Thread nD τ).loc cc0_stg0_0) ↦{fullShare} A.x c
/-- The router's matrix, whole. -/
def wPts (c : Dev nD) : sProp 𝕄 := ((c : Thread nD τ).loc cc0_stg1_0) ↦{fullShare} A.w c
/-- The routing table, whole. -/
def iPts (c : Dev nD) : sProp 𝕄 := ((c : Thread nD τ).loc cc0_stg2_0) ↦{fullShare} A.ix c

/-- The activations' array. -/
abbrev xM : Memref sig .tc .vmem S512x256 .f32 := Memref.whole cc0_stg0_0
/-- The router's array. -/
abbrev wM : Memref sig .tc .vmem S256x64 .f32 := Memref.whole cc0_stg1_0
/-- The routing table's array. -/
abbrev iM : Memref sig .tc .vmem S512x2 .i32 := Memref.whole cc0_stg2_0

/-- A load of all the activations reads them. -/
theorem x_read (X : Vec F S512x256 .f32) :
    (xM : Memref sig .tc .vmem S512x256 .f32).view.readAt (Elt F) (Rect.unit (s := S512x256) ![0, 0] S512x256.size inb_S512x256_S512x256_0_0).toLoadRect X = X := by
  funext x; exact congrArg X (Rect.emb_unit_full _ x)
/-- A load of all of the router's matrix reads it. -/
theorem w_read (W : Vec F S256x64 .f32) :
    (wM : Memref sig .tc .vmem S256x64 .f32).view.readAt (Elt F) (Rect.unit (s := S256x64) ![0, 0] S256x64.size inb_S256x64_S256x64_0_0).toLoadRect W = W := by
  funext x; exact congrArg W (Rect.emb_unit_full _ x)
/-- A load of a column of the routing table reads the column. -/
theorem i_read (I : Vec F S512x2 .i32) (k : ℕ) (inb : ∀ a, (![0, k] : Fin 2 → ℕ) a + S512x1.size a ≤ S512x2.size a) :
    (iM : Memref sig .tc .vmem S512x2 .i32).view.readAt (Elt F) (Rect.unit (s := S512x2) ![0, k] S512x1.size inb).toLoadRect I = col I k inb := by
  funext x; rfl

/-- The word of bit `y`. -/
theorem word_y (c : Dev nD) : Scalar.divsi (Scalar.remsi (devWord c) 4#32) 2#32 = BitVec.ofNat 32 (by' c) := by revert c; decide
/-- The word of bit `x`. -/
theorem word_x (c : Dev nD) : Scalar.remsi (Scalar.addi (Scalar.remsi (devWord c) 4#32) (Scalar.divsi (Scalar.remsi (devWord c) 4#32) 2#32)) 2#32
    = BitVec.ofNat 32 (bx c) := by revert c; decide

/-- The barrier's semaphore. -/
abbrev barA : Sems sig S_ := SemArray.scalar (sig.barrier 0 rfl)

/-- The device finds its place and tells its partner along `x` that it has arrived. -/
theorem k0_part5_ok (Kt : (Σ' (d0 : Dev nD) (v2 : BitVec 32) (v5 : BitVec 32) (v7 : BitVec 32) (v15 : BitVec 32) (v18 : BitVec 32) (v23 : BitVec 32) (v28 : BitVec 32) (v29 : Sems sig S_), BitVec 32) → sProp 𝕄) :
    iprop(facts A K ∗ owingB c 0 ∗ dutyTok ER (barCell (peer 0 c)) 0 0 ∗ handed c 0
      ∗ (∀ (v15 v18 v23 v28 v32 : BitVec 32), iprop(owingB c 1
          -∗ Kt ⟨c, devWord c, BitVec.ofNat 32 (by' c), BitVec.ofNat 32 (bx c), v15, v18, v23, v28, barA, v32⟩)))
      ⊢ wp frame (wpE (defs₀ (F := F)) 𝒱₀ (c : Thread nD τ) none) Set.univ (onArgs (k0_part5 (F := F))) Kt := by
  unfold onArgs
  rw [k0_part5_eq_skeleton]; unfold k0_part5_skel
  simp only [semSignalWord, semWaitWord, Prog.lift, Prog.bind_op, Prog.bind_ret, Prog.pure_eq_ret, wp_deviceId]
  iintro ⟨#Hf, HO, Ht, Hh, Hk⟩
  iapply (wp_signal_bar A K c _ 0 (dev1_eq c)) $$ [HO Ht Hh]
  · iframe Hf HO Ht Hh
  iintro HO
  rw [wp_ret]; imodintro
  rw [← word_x, ← word_y]; unfold devWord
  iapply Hk
  iexact HO

/-- It tells the other partners, and loads the rows, the router's matrix and the routing table. -/
theorem k0_part6_ok (v23 v28 v32 : BitVec 32) (Kt : _ → sProp 𝕄) :
    iprop(facts A K ∗ owingB c 1 ∗ dutyTok ER (barCell (peer 1 c)) 0 1 ∗ dutyTok ER (barCell (peer 2 c)) 0 2 ∗ dutyTok ER (barCell (peer 3 c)) 0 3
      ∗ handed c 1 ∗ handed c 2 ∗ handed c 3 ∗ xPts A c ∗ wPts A c ∗ iPts A c
      ∗ (owing c 0 ∗ xPts A c ∗ wPts A c ∗ iPts A c
          -∗ Kt ⟨k0_pay9 (A.x c), k0_pay10 (A.x c) (A.w c), lanes, k0_pay11 (col0 A c), k0_pay12 (col1 A c), k0_pay13 (A.x c) (A.w c) (col0 A c), k0_pay14 (A.x c) (A.w c) (col1 A c)⟩))
      ⊢ wp frame (wpE (defs₀ (F := F)) 𝒱₀ (c : Thread nD τ) none) Set.univ (onArgs (k0_part6 (F := F)) c v23 v28 barA v32) Kt := by
  unfold onArgs
  rw [k0_part6_eq_skeleton]; unfold k0_part6_skel
  simp only [semSignalWord, semWaitWord, Prog.lift, Prog.bind_op, Prog.bind_ret, Prog.pure_eq_ret]
  unfold xPts wPts iPts
  iintro ⟨#Hf, HO, Ht1, Ht2, Ht3, Hh1, Hh2, Hh3, Hx, Hw, Hi, Hk⟩
  iapply (wp_signal_bar A K c _ 1 (dev2_eq c)) $$ [HO Ht1 Hh1]
  · iframe Hf HO Ht1 Hh1
  iintro HO
  iapply (wp_signal_bar A K c _ 2 (dev3_eq c)) $$ [HO Ht2 Hh2]
  · iframe Hf HO Ht2 Hh2
  iintro HO
  iapply (wp_signal_bar A K c _ 3 (dev4_eq c)) $$ [HO Ht3 Hh3]
  · iframe Hf HO Ht3 Hh3
  rw [show owingB (F := F) c ((3 : Fin 4).val + 1) = owing c 0 from owingB_last c]
  iintro HO
  iapply (wp_load 𝒱₀ (c : Thread nD τ) none Set.univ (m := xM) (Finset.subset_univ _)) $$ Hx
  iintro Hx
  rw [x_read]
  iapply (wp_load 𝒱₀ (c : Thread nD τ) none Set.univ (m := wM) (Finset.subset_univ _)) $$ Hw
  iintro Hw
  rw [w_read]
  iapply (wp_load 𝒱₀ (c : Thread nD τ) none Set.univ (m := iM) (Finset.subset_univ _)) $$ Hi
  iintro Hi
  rw [i_read]
  iapply (wp_load 𝒱₀ (c : Thread nD τ) none Set.univ (m := iM) (Finset.subset_univ _)) $$ Hi
  iintro Hi
  rw [i_read]
  rw [wp_ret]; imodintro
  unfold lanes col0 col1
  iapply Hk
  iframe HO Hx Hw Hi

/-- The weights of the device's four experts. -/
theorem k0_part7_ok (v5 v7 : BitVec 32)
    (Kt : (Σ' (v82 : FVec F S512x1 .f32) (v90 : FVec F S512x1 .f32) (v98 : FVec F S512x1 .f32) (v106 : FVec F S512x1 .f32) (v107 : BitVec 32), BitVec 32) → sProp 𝕄) :
    iprop(facts A K ∗ (∀ (v107 v108 : BitVec 32), iprop(facts A K -∗ Kt ⟨g0 A c, g1 A c, g2 A c, g3 A c, v107, v108⟩)))
      ⊢ wp frame (wpE (defs₀ (F := F)) 𝒱₀ (c : Thread nD τ) none) Set.univ (onArgs (k0_part7 (F := F)) (devWord c) v5 v7
          (k0_pay10 (A.x c) (A.w c)) lanes (k0_pay11 (col0 A c)) (k0_pay12 (col1 A c)) (k0_pay13 (A.x c) (A.w c) (col0 A c)) (k0_pay14 (A.x c) (A.w c) (col1 A c))) Kt := by
  unfold onArgs
  rw [k0_part7_eq_skeleton]; unfold k0_part7_skel
  simp only [Prog.lift, Prog.bind_op, Prog.bind_ret, Prog.pure_eq_ret]
  iintro ⟨#Hf, Hk⟩
  rw [wp_ret]; imodintro
  unfold g0 g1 g2 g3 gate0 gate1 gate2 gate3
  iapply Hk
  iexact Hf

/-- Of two conditionals on a word that is 0 or 1 exactly one is taken. -/
theorem wp_pick {b : ℕ} (hb : b = 0 ∨ b = 1) {R T : sProp 𝕄} {α : Type} {Q : α → sProp 𝕄}
    {p0 p1 : Prog (TpuEff nD τ sig (Elt F) Λ₀ .tc) α → Prog (TpuEff nD τ sig (Elt F) Λ₀ .tc) α}
    (h0 : b = 0 → ∀ k, R ⊢ iprop((T -∗ wp frame (wpE (defs₀ (F := F)) 𝒱₀ (c : Thread nD τ) none) Set.univ k Q)
      -∗ wp frame (wpE (defs₀ (F := F)) 𝒱₀ (c : Thread nD τ) none) Set.univ (p0 k) Q))
    (h1 : b = 1 → ∀ k, R ⊢ iprop((T -∗ wp frame (wpE (defs₀ (F := F)) 𝒱₀ (c : Thread nD τ) none) Set.univ k Q)
      -∗ wp frame (wpE (defs₀ (F := F)) 𝒱₀ (c : Thread nD τ) none) Set.univ (p1 k) Q))
    {k : Prog (TpuEff nD τ sig (Elt F) Λ₀ .tc) α} :
    R ⊢ iprop((T -∗ wp frame (wpE (defs₀ (F := F)) 𝒱₀ (c : Thread nD τ) none) Set.univ k Q)
      -∗ wp frame (wpE (defs₀ (F := F)) 𝒱₀ (c : Thread nD τ) none) Set.univ
        (if h : Scalar.cmpi .ne (Scalar.extui (Scalar.cmpi .eq (BitVec.ofNat 32 b) 1#32) : BitVec 32) 0#32 = 1#1 then
          p1 (if h : Scalar.cmpi .ne (Scalar.extui (Scalar.cmpi .eq (BitVec.ofNat 32 b) 0#32) : BitVec 32) 0#32 = 1#1 then p0 k else k)
        else (if h : Scalar.cmpi .ne (Scalar.extui (Scalar.cmpi .eq (BitVec.ofNat 32 b) 0#32) : BitVec 32) 0#32 = 1#1 then p0 k else k)) Q) := by
  rcases hb with rfl | rfl
  · rw [dif_neg (by decide), dif_pos (by decide)]; exact h0 rfl k
  · rw [dif_pos (by decide), dif_neg (by decide)]; exact h1 rfl k

/-- A block computed and rounded by `p`, and stored to be sent by transfer `s`. -/
theorem wp_first (s : Fin 12) (hs : rows s = 128) {off : Fin 3 → ℕ} (inb : ∀ a, off a + S1x128x512.size a ≤ S12x128x512.size a)
    (h : off 0 = s.val ∧ off 1 = 0 ∧ off 2 = 0) (f : FVec F S128x512 .bf16 → FVec F S1x128x512 .bf16) (hf : f = k0_pay20)
    {p : Prog (TpuEff nD τ sig (Elt F) Λ₀ .tc) (FVec F S128x512 .bf16)} {R T : sProp 𝕄}
    (hp : ∀ Kt : FVec F S128x512 .bf16 → sProp 𝕄, iprop(ePts A c ∗ R ∗ sndHas A c s (fun _ => False)
      ∗ (∀ v : FVec F S128x512 .bf16, iprop(⌜∀ x : S1x128x512.Idx, k0_pay20 v x = sentAt A c s (0 + (x 1).val) (x 2).val⌝
        ∗ ePts A c ∗ T ∗ sndHas A c s (fun _ => False) -∗ Kt v)))
      ⊢ wp frame (wpE (defs₀ (F := F)) 𝒱₀ (c : Thread nD τ) none) Set.univ p Kt)
    {hx : ((sM : Memref sig .tc .vmem S12x128x512 .bf16).access (Rect.unit (s := S12x128x512) off S1x128x512.size inb)).Stores Finset.univ}
    {hm : (Finset.univ : Finset (Rect.unit (s := S12x128x512) off S1x128x512.size inb).shape.Idx) = Finset.univ ∨ ∀ a, (Rect.unit (s := S12x128x512) off S1x128x512.size inb).stride a = 1}
    {α : Type} {Q : α → sProp 𝕄} (k : Prog (TpuEff nD τ sig (Elt F) Λ₀ .tc) α) :
    iprop(ePts A c ∗ R ∗ sndHas A c s (fun _ => False))
      ⊢ iprop((ePts A c ∗ T ∗ sndPts c s (sent A c) -∗ wp frame (wpE (defs₀ (F := F)) 𝒱₀ (c : Thread nD τ) none) Set.univ k Q)
      -∗ wp frame (wpE (defs₀ (F := F)) 𝒱₀ (c : Thread nD τ) none) Set.univ
          (p >>= fun v => .op (.store sM (Rect.unit (s := S12x128x512) off S1x128x512.size inb) (f v) Finset.univ hx hm) fun _ => k) Q) := by
  subst hf
  rw [wp_bind]
  iintro ⟨He, Ho, Hs⟩ Hk
  iapply (hp _)
  iframe He Ho Hs
  iintro %v ⟨%hv, He, Ho, Hs⟩
  iapply (wp_fill128 A c s hs inb h _ hv) $$ Hs
  iintro Hs
  iapply Hk
  iframe He Ho Hs

/-- The first row of the block that goes out first. -/
theorem base0_of {b : ℕ} (h : bx c = b) : base 0 c = 128 - 128 * b := by subst h; rfl
/-- The first row of the block that goes out second. -/
theorem base1_of {b : ℕ} (h : by' c = b) : base 1 c = 384 - 128 * b := by subst h; rfl

/-- What a device holds after that: transfer 0 under way, its partners' places, two blocks of the partial result, transfer 1 filled in. -/
def afterBar (c : Dev nD) : sProp 𝕄 :=
  iprop(owing c 1 ∗ flying c 0 ∗ semVal (barCell c) 0
    ∗ (rcvAny (pr 3 c) 3 ∗ rcvAny (pr 9 c) 9 ∗ rcvAny (pr 10 c) 10) ∗ barPay c 1 ∗ barPay c 2 ∗ barPay c 3
    ∗ ePts A c ∗ outHas A c (fun r => (False ∨ (base 0 c ≤ r ∧ r < base 0 c + 128)) ∨ (base 1 c ≤ r ∧ r < base 1 c + 128))
    ∗ sndPts c 1 (sent A c))

/-- The first block is computed, the barrier passed, transfer 0 started; the second block is computed. -/
theorem k0_part8_ok (v15 v107 v108 : BitVec 32) (Kt : (Σ' (v109 : BitVec 32) (v111 : BitVec 32), BitVec 32) → sProp 𝕄) :
    iprop(facts A K ∗ owing c 0 ∗ cred (tallyAt (barCell c) () 4) ∗ atPos ER (barCell c) 0 ∅ 0 ∗ tok c 0
      ∗ ePts A c ∗ outHas A c (fun _ => False) ∗ sndHas A c 0 (fun _ => False) ∗ sndHas A c 1 (fun _ => False)
      ∗ (∀ (v109 v111 v113 : BitVec 32), iprop(afterBar A c -∗ Kt ⟨v109, v111, v113⟩)))
      ⊢ wp frame (wpE (defs₀ (F := F)) 𝒱₀ (c : Thread nD τ) none) Set.univ (onArgs (k0_part8 (F := F)) c (BitVec.ofNat 32 (by' c)) (BitVec.ofNat 32 (bx c)) v15 barA
          (k0_pay9 (A.x c)) (g0 A c) (g1 A c) (g2 A c) (g3 A c) v107 v108) Kt := by
  unfold onArgs
  rw [k0_part8_eq_skeleton]; unfold k0_part8_skel
  simp only [semSignalWord, semWaitWord, Prog.lift, Prog.bind_op, Prog.bind_ret, Prog.pure_eq_ret]
  iintro ⟨#Hf, HO, Hc, Hat, Ht, He, Ho, Hs, Hs1, Hk⟩
  iapply (wp_pick c (bx_cases c)
    (fun h => wp_first A c 0 rfl inb_S12x128x512_S1x128x512_0_0_0 ⟨rfl, rfl, rfl⟩ k0_pay21 pay21_eq (k0_part2_ok A c (base0_of c h)))
    (fun h => wp_first A c 0 rfl inb_S12x128x512_S1x128x512_0_0_0 ⟨rfl, rfl, rfl⟩ k0_pay20 rfl (k0_part1_ok A c (base0_of c h)))) $$ [He Ho Hs]
  · iframe He Ho Hs
  iintro ⟨He, Ho, Hs⟩
  iapply (wp_wait_bar A K c) $$ [HO Hc Hat]
  · iframe Hf HO Hc Hat
  iintro ⟨HO, ⟨Hp0, Hp1, Hp2, Hp3⟩, Hz⟩
  unfold barPay
  icases Hp0 with ⟨Hp, Hrest⟩
  iapply (wp_send128 A K c 0 rfl inb_S12x128x512_S1x128x512_0_0_0 inb_S12_S1_0 ⟨rfl, rfl, rfl⟩ (dev5_eq c) rfl rfl) $$ [HO Ht Hp Hs]
  · unfold ready
    iframe Hf HO Ht Hp Hs
  iintro ⟨HO, Hfl⟩
  iapply (wp_pick c (by_cases' c)
    (fun h => wp_first A c 1 rfl inb_S12x128x512_S1x128x512_1_0_0 ⟨rfl, rfl, rfl⟩ k0_pay23 pay23_eq (k0_part4_ok A c (base1_of c h)))
    (fun h => wp_first A c 1 rfl inb_S12x128x512_S1x128x512_1_0_0 ⟨rfl, rfl, rfl⟩ k0_pay22 pay22_eq (k0_part3_ok A c (base1_of c h)))) $$ [He Ho Hs1]
  · iframe He Ho Hs1
  iintro ⟨He, Ho, Hs1⟩
  rw [wp_ret]; imodintro
  iapply Hk
  unfold afterBar barPay
  iframe HO Hfl Hz Hrest Hp1 Hp2 Hp3 He Ho Hs1

/-- Transfer 1 starts; the two other blocks complete the partial result; transfer 0 has been sent. -/
theorem k0_part9_ok (v18 : BitVec 32) (Kt : PUnit → sProp 𝕄) :
    iprop(facts A K ∗ owing c 1 ∗ ready c 1 ∗ sndPts c 1 (sent A c) ∗ flying c 0 ∗ atS c 0
      ∗ ePts A c ∗ outHas A c (fun r => (False ∨ (base 0 c ≤ r ∧ r < base 0 c + 128)) ∨ (base 1 c ≤ r ∧ r < base 1 c + 128))
      ∗ (owing c 2 ∗ flying c 1 ∗ sentDone A c 0 ∗ ePts A c ∗ outPts A c ![0, 0, 0, 0, 0, 0] -∗ Kt ⟨⟩))
      ⊢ wp frame (wpE (defs₀ (F := F)) 𝒱₀ (c : Thread nD τ) none) Set.univ (onArgs (k0_part9 (F := F)) c (BitVec.ofNat 32 (by' c)) (BitVec.ofNat 32 (bx c)) v18
          (k0_pay9 (A.x c)) (g0 A c) (g1 A c) (g2 A c) (g3 A c)) Kt := by
  unfold onArgs
  rw [k0_part9_eq_skeleton]; unfold k0_part9_skel
  simp only [Prog.lift, Prog.bind_op, Prog.bind_ret, Prog.pure_eq_ret]
  have hx := bx_lt c
  have hy := by_lt c
  iintro ⟨#Hf, HO, Hready, Hs, Hfl, Hat, He, Ho, Hk⟩
  iapply (wp_send128 A K c 1 rfl inb_S12x128x512_S1x128x512_1_0_0 inb_S12_S1_1 ⟨rfl, rfl, rfl⟩ (dev6_eq c) rfl rfl) $$ [HO Hready Hs]
  · iframe Hf HO Hready Hs
  iintro ⟨HO, Hfl1⟩
  iapply (wp_pick c (bx_cases c)
    (fun h k => wp_block A c 0 (128 * bx c) (by rw [h]) _ ⟨by rw [h]; rfl, rfl⟩
      (k0_pay25 (k0_pay9 (A.x c)) (g0 A c) (g1 A c) (g2 A c) (g3 A c)) rfl (k := fun _ _ _ _ => k))
    (fun h k => wp_block A c 1 (128 * bx c) (by rw [h]) _ ⟨by rw [h]; rfl, rfl⟩
      (k0_pay24 (k0_pay9 (A.x c)) (g0 A c) (g1 A c) (g2 A c) (g3 A c)) rfl (k := fun _ _ _ _ => k))) $$ [He Ho]
  · iframe He Ho
  iintro ⟨He, Ho⟩
  iapply (wp_pick c (by_cases' c)
    (fun h k => wp_block A c 2 (256 + 128 * by' c) (by rw [h]) _ ⟨by rw [h]; rfl, rfl⟩
      (k0_pay27 (k0_pay9 (A.x c)) (g0 A c) (g1 A c) (g2 A c) (g3 A c)) rfl (k := fun _ _ _ _ => k))
    (fun h k => wp_block A c 3 (256 + 128 * by' c) (by rw [h]) _ ⟨by rw [h]; rfl, rfl⟩
      (k0_pay26 (k0_pay9 (A.x c)) (g0 A c) (g1 A c) (g2 A c) (g3 A c)) rfl (k := fun _ _ _ _ => k))) $$ [He Ho]
  · iframe He Ho
  iintro ⟨He, Ho⟩
  ihave Ho := (outHas_all A c (fun r hr => by
    show ((((False ∨ (128 - 128 * bx c ≤ r ∧ r < 128 - 128 * bx c + 128)) ∨ (384 - 128 * by' c ≤ r ∧ r < 384 - 128 * by' c + 128)) ∨ _) ∨ _)
    omega)) $$ Ho
  iapply (wp_sent128 A K c 0 2 rfl inb_S12x128x512_S1x128x512_0_0_0 inb_S12_S1_0 rfl) $$ [HO Hfl Hat]
  · iframe Hf HO Hfl Hat
  iintro ⟨HO, Hd⟩
  rw [wp_ret]; imodintro
  iapply Hk
  iframe HO Hfl1 Hd He Ho

end Cert.KI

end
-- ==== Proof.KI.Body.lean ====
/- The body of the kernel: its parts one after the other, from what the launch gives a device to what it hands back. -/
module

public import proofs.«01_k».proof.Proof.KI.Start

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

local notation "𝕄" => MT nD τ sig Unit (Elt F) ℕ UU ℕ

variable (A : Inp F) (K : Dev nD × Cell → ℕ) (c : Dev nD)

/-- What belongs to transfer `s` before the body: its places of the send buffer, its duties, its two cells unused. -/
def slotIn (s : Fin 12) : sProp 𝕄 := iprop(sndHas A c s (fun _ => False) ∗ tok c s ∗ atS c s ∗ coming c s)
/-- After the body: the places of both buffers, and the two cells at zero. -/
def slotOut (s : Fin 12) : sProp 𝕄 := iprop(sentDone A c s ∗ rcvDone A c s)

/-- The barrier: the tokens of the four signals, what goes with them, and the own cell unused. -/
def barIn : sProp 𝕄 :=
  iprop((dutyTok ER (barCell (peer 0 c)) 0 0 ∗ dutyTok ER (barCell (peer 1 c)) 0 1 ∗ dutyTok ER (barCell (peer 2 c)) 0 2 ∗ dutyTok ER (barCell (peer 3 c)) 0 3)
    ∗ (handed c 0 ∗ handed c 1 ∗ handed c 2 ∗ handed c 3)
    ∗ cred (tallyAt (barCell c) () 4) ∗ atPos ER (barCell c) 0 ∅ 0)

/-- The arrays the body only reads. -/
def argPts : sProp 𝕄 := iprop(xPts A c ∗ wPts A c ∗ iPts A c ∗ ePts A c)

/-- What a device holds when its body starts. -/
def bodyIn : sProp 𝕄 :=
  iprop(owingB c 0 ∗ barIn c ∗ argPts A c ∗ outHas A c (fun _ => False)
    ∗ slotIn A c 0 ∗ slotIn A c 1 ∗ slotIn A c 2 ∗ slotIn A c 3 ∗ slotIn A c 4 ∗ slotIn A c 5 ∗ slotIn A c 6 ∗ slotIn A c 7 ∗ slotIn A c 8 ∗ slotIn A c 9 ∗ slotIn A c 10 ∗ slotIn A c 11)
/-- What it holds when its body ends: the result complete, every transfer sent and received, nothing owed. -/
def bodyOut : sProp 𝕄 :=
  iprop(owing c 12 ∗ semVal (barCell c) 0 ∗ argPts A c ∗ outPts A c ![4, 5, 5, 4, 5, 5]
    ∗ slotOut A c 0 ∗ slotOut A c 1 ∗ slotOut A c 2 ∗ slotOut A c 3 ∗ slotOut A c 4 ∗ slotOut A c 5 ∗ slotOut A c 6 ∗ slotOut A c 7 ∗ slotOut A c 8 ∗ slotOut A c 9 ∗ slotOut A c 10 ∗ slotOut A c 11)

omit [FloatOps F] in
/-- A transfer's duties and the partner's places make it ready. -/
theorem ready_intro (s : Fin 12) : iprop(tok c s ∗ rcvAny (pr s c) s) ⊢ (ready c s : sProp 𝕄) := by unfold ready; exact BI.Entails.refl _

set_option maxHeartbeats 4000000 in
/-- The body runs from `bodyIn` to `bodyOut`. -/
theorem body_ok (Kt : PUnit → sProp 𝕄) :
    iprop(facts A K ∗ bodyIn A c ∗ (bodyOut A c -∗ Kt ⟨⟩))
      ⊢ wp frame (wpE (defs₀ (F := F)) 𝒱₀ (c : Thread nD τ) none) Set.univ (onArgs (cc0_body (F := F))) Kt := by
  unfold onArgs
  rw [cc0_body_eq_skeleton]; unfold cc0_body_skel
  have h14 := off_at (off14_eq c)
  unfold bodyIn barIn argPts
  iintro ⟨#Hf, ⟨HO, ⟨⟨B0, B1, B2, B3⟩, ⟨N0, N1, N2, N3⟩, Hcb, Hab⟩, ⟨Hx, Hw, Hi, He⟩, Ho, I0, I1, I2, I3, I4, I5, I6, I7, I8, I9, I10, I11⟩, Hk⟩
  unfold slotIn
  icases I0 with ⟨S0, T0, A0, C0⟩
  icases I1 with ⟨S1, T1, A1, C1⟩
  icases I2 with ⟨S2, T2, A2, C2⟩
  icases I3 with ⟨S3, T3, A3, C3⟩
  icases I4 with ⟨S4, T4, A4, C4⟩
  icases I5 with ⟨S5, T5, A5, C5⟩
  icases I6 with ⟨S6, T6, A6, C6⟩
  icases I7 with ⟨S7, T7, A7, C7⟩
  icases I8 with ⟨S8, T8, A8, C8⟩
  icases I9 with ⟨S9, T9, A9, C9⟩
  icases I10 with ⟨S10, T10, A10, C10⟩
  icases I11 with ⟨S11, T11, A11, C11⟩
  rw [wp_bind]
  iapply (k0_part5_ok A K c  _)
  iframe Hf HO B0 N0
  iintro %v15 %v18 %v23 %v28 %v32 HO
  rw [wp_bind]
  iapply (k0_part6_ok A K c _ _ _ _)
  iframe Hf HO B1 B2 B3 N1 N2 N3 Hx Hw Hi
  iintro ⟨HO, Hx, Hw, Hi⟩
  rw [wp_bind]
  iapply (k0_part7_ok A K c _ _ _)
  isplitr; · iexact Hf
  iintro %v107 %v108 -
  rw [wp_bind]
  iapply (k0_part8_ok A K c _ _ _ _)
  iframe Hf HO Hcb Hab T0 He Ho S0 S1
  iintro %v109 %v111 %v113 HB
  unfold afterBar barPay
  icases HB with ⟨HO, F0, Hz, ⟨P3, P9, P10⟩, ⟨P1, P2, P8, P11⟩, ⟨P4, P5⟩, ⟨P6, P7⟩, He, Ho, S1⟩
  ihave R1 := (ready_intro c 1) $$ [T1 P1]
  · iframe T1 P1
  ihave R2 := (ready_intro c 2) $$ [T2 P2]
  · iframe T2 P2
  ihave R3 := (ready_intro c 3) $$ [T3 P3]
  · iframe T3 P3
  ihave R4 := (ready_intro c 4) $$ [T4 P4]
  · iframe T4 P4
  ihave R5 := (ready_intro c 5) $$ [T5 P5]
  · iframe T5 P5
  ihave R6 := (ready_intro c 6) $$ [T6 P6]
  · iframe T6 P6
  ihave R7 := (ready_intro c 7) $$ [T7 P7]
  · iframe T7 P7
  ihave R8 := (ready_intro c 8) $$ [T8 P8]
  · iframe T8 P8
  ihave R9 := (ready_intro c 9) $$ [T9 P9]
  · iframe T9 P9
  ihave R10 := (ready_intro c 10) $$ [T10 P10]
  · iframe T10 P10
  ihave R11 := (ready_intro c 11) $$ [T11 P11]
  · iframe T11 P11
  rw [wp_bind]
  iapply (k0_part9_ok A K c _ _)
  iframe Hf HO R1 S1 F0 A0 He Ho
  iintro ⟨HO, F1, D0, He, Ho⟩
  rw [wp_bind]
  iapply (k0_part10_ok A K c _ _ _ _ _)
  iframe Hf HO C0 Ho S2
  iintro %v174 %v184 ⟨%hv184, HO, V0, Ho, S2⟩
  rw [wp_bind]
  iapply (k0_part11_ok A K c _ _ _ _ _ hv184 _)
  iframe Hf HO R2 S2 V0 Ho F1 A1
  iintro ⟨HO, F2, V0, Ho, D1⟩
  rw [wp_bind]
  iapply (k0_part12_ok A K c _ _ _ _ _)
  iframe Hf HO C1 Ho S3 R3
  iintro %v257 %v258 ⟨%hv257, HO, V1, Ho, F3⟩
  rw [wp_bind]
  iapply (k0_part13_ok A K c _ _ _ _ _ hv257 _)
  iframe Hf HO V1 Ho F2 A2 C2
  iintro %v286 %v287 ⟨%hv286, HO, V1, Ho, D2, V2⟩
  rw [wp_bind]
  iapply (k0_part14_ok A K c _ _ _ _ _ hv286.1 hv286.2 _)
  iframe Hf HO S4 R4 Ho F3 A3
  iintro ⟨HO, F4, Ho, D3⟩
  rw [wp_bind]
  iapply (k0_part15_ok A K c _ _ _)
  iframe Hf HO C3 Ho S5 R5
  iintro ⟨HO, F5, Ho, V3⟩
  rw [wp_bind]
  iapply (k0_part16_ok A K c _ _ _ _)
  iframe Hf HO F4 A4 C4 Ho S6
  iintro %v360 ⟨%hv360, HO, D4, V4, Ho, S6⟩
  rw [wp_bind]
  iapply (k0_part17_ok A K c _ _ _ _ hv360 _)
  iframe Hf HO S6 R6 Ho F5 A5 C5 S7
  iintro %v397 %v398 ⟨%hv397, HO, F6, Ho, D5, V5, S7⟩
  rw [wp_bind]
  iapply (k0_part18_ok A K c _ _ _ _ hv397.1 hv397.2 _)
  iframe Hf HO S7 R7 Ho F6 A6
  iintro ⟨HO, F7, Ho, D6⟩
  rw [wp_bind]
  iapply (k0_part19_ok A K c _ _ _)
  iframe Hf HO C6 Ho S8 R8
  iintro ⟨HO, F8, Ho, V6⟩
  rw [wp_bind]
  iapply (k0_part20_ok A K c _ _ _ _)
  iframe Hf HO F7 A7 C7 Ho S9
  iintro %v471 ⟨%hv471, HO, D7, V7, Ho, S9⟩
  rw [wp_bind]
  iapply (k0_part21_ok A K c _ _ _ _ _ hv471 _)
  iframe Hf HO S9 R9 Ho F8 A8 C8 S10
  iintro %v512 %w512 ⟨%hv512, HO, F9, Ho, D8, V8, S10⟩
  rw [wp_bind]
  iapply (k0_part22_ok A K c _ _ _ _ _ hv512 _)
  iframe Hf HO S10 R10 V8 Ho
  iintro ⟨HO, F10, V8, Ho⟩
  rw [wp_bind]
  iapply (k0_part23_ok A K c _ _ _ _ _)
  iframe Hf HO F9 A9 C9 Ho S11
  iintro ⟨HO, D9, V9, Ho, S11⟩
  rw [wp_bind]
  iapply (k0_part24_ok A K c _ _ _ _)
  iframe Hf HO S11 R11 V9 Ho F10 A10
  iintro ⟨HO, F11, V9, Ho, D10⟩
  rw [wp_bind]
  iapply (k0_part25_ok A K c _ _ _ _)
  iframe Hf HO C10 Ho F11 A11 C11
  iintro %v623 %v624 %w623 ⟨%hv623, HO, V10, Ho, D11, V11⟩
  simp only [Prog.lift, Prog.bind_op, Prog.bind_ret, Prog.pure_eq_ret]
  iapply (wp_load_out A c _ _) $$ Ho
  iintro Ho
  iapply (wp_store_out A c _ _ 5 5 h14.1 h14.2 rfl rfl _ hv623 (κ' := ![4, 5, 5, 4, 5, 5]) (by decide)) $$ Ho
  iintro Ho
  rw [wp_ret]; imodintro
  iapply Hk
  unfold bodyOut argPts slotOut
  iframe HO Hz Hx Hw Hi He Ho D0 V0 D1 V1 D2 V2 D3 V3 D4 V4 D5 V5 D6 V6 D7 V7 D8 V8 D9 V9 D10 V10 D11 V11

end Cert.KI

end
-- ==== Proof.KI.Places.lean ====
/- The two transfer buffers cut into the places of the twelve transfers and a remainder no transfer touches, and put together again. -/
module

public import proofs.«01_k».proof.Proof.KI.Body
public import Idealize.ShloMosaic.Lib.Ring

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ UU ℕ

/-- The places of different transfers are different. -/
theorem slot_disjoint (s t : Fin 12) (h : s ≠ t) : Disjoint (slot s) (slot t) :=
  Finset.disjoint_left.mpr fun i hs ht => h (Fin.ext ((mem_slot.mp hs).1.symm.trans (mem_slot.mp ht).1))

/-- The places of the twelve transfers. -/
def slots : Finset S12x128x512.Idx := Finset.univ.biUnion slot

/-- Of either buffer the places no transfer touches, at whatever they hold. -/
def spare (c : Dev nD) : sProp 𝕄 :=
  iprop((∃ f, sLoc c ↦[Finset.univ \ slots]{fullShare} f) ∗ (∃ f, rLoc c ↦[Finset.univ \ slots]{fullShare} f))

/-- Both buffers whole, at whatever they hold. -/
def wholes (c : Dev nD) : sProp 𝕄 := iprop((∃ f, sLoc c ↦{fullShare} f) ∗ (∃ f, rLoc c ↦{fullShare} f))

/-- A buffer of twelve pairwise disjoint families of places, cut. -/
theorem cut {ℓ : Loc nD τ sig} (I : Fin 12 → Finset (Idx ℓ)) (hd : ∀ s t, s ≠ t → Disjoint (I s) (I t)) (f : Buf (Elt F) ℓ) :
    ((ℓ ↦{fullShare} f) : sProp 𝕄) ⊢ iprop((bigSep Finset.univ fun s => iprop(∃ f, ℓ ↦[I s]{fullShare} f)) ∗ ∃ f, ℓ ↦[Finset.univ \ Finset.univ.biUnion I]{fullShare} f) := by
  iintro H
  ihave H' := ((pointsTo_split_subset (Finset.subset_univ (Finset.univ.biUnion I))).1) $$ H
  icases H' with ⟨H1, H2⟩
  isplitl [H1]
  · ihave H1' := (Entails.of_eq (pointsTo_biUnion Finset.univ I (fun s _ t _ h => hd s t h))) $$ H1
    have h1 : bigSep Finset.univ (fun s => ((ℓ ↦[I s]{fullShare} f) : sProp 𝕄)) ⊢ bigSep Finset.univ fun s => iprop(∃ f, ℓ ↦[I s]{fullShare} f) :=
      bigSep_mono fun s _ => show ((ℓ ↦[I s]{fullShare} f) : sProp 𝕄) ⊢ iprop(∃ f, ℓ ↦[I s]{fullShare} f) from (by iintro H; iexists f; iexact H)
    iapply h1; iexact H1'
  · iexists f; iexact H2

/-- And put together. -/
theorem uncut {ℓ : Loc nD τ sig} (I : Fin 12 → Finset (Idx ℓ)) (hd : ∀ s t, s ≠ t → Disjoint (I s) (I t)) :
    iprop((bigSep Finset.univ fun s => iprop(∃ f, ℓ ↦[I s]{fullShare} f)) ∗ ∃ f, ℓ ↦[Finset.univ \ Finset.univ.biUnion I]{fullShare} f)
      ⊢ (iprop(∃ f, ℓ ↦{fullShare} f) : sProp 𝕄) := by
  iintro ⟨H, ⟨%f, Hr⟩⟩
  ihave H' := (Ring.pointsTo_sub_blocks_join_exists I hd (Finset.univ.biUnion I) rfl f) $$ H
  icases H' with ⟨%g, Hg⟩
  iexists _
  iapply (pointsTo_join_subset (Finset.subset_univ (Finset.univ.biUnion I)))
  isplitl [Hg]; · iexact Hg
  iexact Hr

/-- A transfer's places of the send buffer at whatever they hold. -/
def sndAny (c : Dev nD) (s : Fin 12) : sProp 𝕄 := iprop(∃ f, sndPts c s f)

/-- Both buffers whole are the transfers' places and the rest. -/
theorem wholes_cut (c : Dev nD) : (wholes c : sProp 𝕄)
    ⊢ iprop((bigSep Finset.univ fun s => sndAny c s) ∗ (bigSep Finset.univ fun s => rcvAny c s) ∗ spare c) := by
  unfold wholes sndAny rcvAny sndPts rcvPts spare slots
  iintro ⟨⟨%f, Hs⟩, ⟨%g, Hr⟩⟩
  ihave Hs' := (cut (ℓ := sLoc c) slot slot_disjoint f) $$ Hs
  ihave Hr' := (cut (ℓ := rLoc c) slot slot_disjoint g) $$ Hr
  icases Hs' with ⟨H1, H2⟩
  icases Hr' with ⟨H3, H4⟩
  isplitl [H1]; · iexact H1
  isplitl [H3]; · iexact H3
  isplitl [H2]; · iexact H2
  iexact H4

/-- The transfers' places and the rest are both buffers whole. -/
theorem wholes_uncut (c : Dev nD) :
    iprop((bigSep Finset.univ fun s => sndAny c s) ∗ (bigSep Finset.univ fun s => rcvAny c s) ∗ spare c) ⊢ (wholes c : sProp 𝕄) := by
  unfold wholes sndAny rcvAny sndPts rcvPts spare slots
  iintro ⟨H1, H3, H2, H4⟩
  isplitl [H1 H2]
  · iapply (uncut (ℓ := sLoc c) slot slot_disjoint)
    isplitl [H1]; · iexact H1
    iexact H2
  · iapply (uncut (ℓ := rLoc c) slot slot_disjoint)
    isplitl [H3]; · iexact H3
    iexact H4

/-- One for each transfer. -/
theorem each12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
/-- One for each partner. -/
theorem each4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- One for each cell: the barrier's, the send cells', the receive cells'. -/
theorem eachCell (Φ : Cell → sProp 𝕄) : bigSep Finset.univ Φ
    = iprop(Φ none ∗ (bigSep Finset.univ fun s => Φ (some (.inl s))) ∗ (bigSep Finset.univ fun s => Φ (some (.inr s)))) := by
  rw [bigSep_univ_equiv ((Equiv.sumComm PUnit.{1} (Fin 12 ⊕ Fin 12)).trans (Equiv.optionEquivSumPUnit.{0,0} (Fin 12 ⊕ Fin 12)).symm) Φ, bigSep_univ_sum, bigSep_univ_sum,
    bigSep_univ_eq_bigSepL [PUnit.unit] (by decide) (by decide)]
  rfl

end Cert.KI

end
-- ==== Proof.KI.Ghost.lean ====
/- The ghost state of the launch: the cells and their duties dealt to the devices that pay them, the invariants made. -/
module

public import proofs.«01_k».proof.Proof.KI.Places

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Inp F)

/-- Different devices or cells have different semaphores. -/
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells of all the devices. -/
def allCells : Finset (GSem nD τ sig) := Finset.univ.map ⟨kcell, kcell_injective⟩

/-- A duty of a device's cells: one of the four of its barrier cell, or the one of a send or a receive cell. -/
abbrev Duty : Type := Fin 4 ⊕ (Fin 12 ⊕ Fin 12)
/-- The cell a duty is of. -/
abbrev dutyCell : Duty → Cell
  | .inl _ => none
  | .inr s => some s
/-- The number of a duty at its cell. -/
abbrev dutyName : Duty → Fin 4
  | .inl k => k
  | .inr _ => 0
/-- The token of a duty. -/
abbrev tokOf (cd : Dev nD × Duty) : GSem nD τ sig × ℕ × Fin 4 := (kcell (cd.1, dutyCell cd.2), 0, dutyName cd.2)
/-- Different duties have different tokens. -/
theorem tokOf_injective : Function.Injective tokOf := by
  rintro ⟨c, d⟩ ⟨c', d'⟩ h
  have h1 := kcell_injective (congrArg Prod.fst h)
  have h2 : dutyName d = dutyName d' := congrArg (fun x : GSem nD τ sig × ℕ × Fin 4 => x.2.2) h
  have hc : c = c' := congrArg Prod.fst h1
  have hd : dutyCell d = dutyCell d' := congrArg Prod.snd h1
  subst hc
  rcases d with k | s <;> rcases d' with k' | s'
  · exact congrArg (fun k => (c, Sum.inl k)) h2
  · exact absurd hd (by intro h; cases h)
  · exact absurd hd (by intro h; cases h)
  · exact congrArg (fun s => (c, Sum.inr s)) (Option.some.inj hd)
/-- The tokens of all the duties. -/
def allToks : Finset (GSem nD τ sig × ℕ × Fin 4) := Finset.univ.map ⟨tokOf, tokOf_injective⟩

/-- The ghost state at the launch: that of the staging, and that of the cells. -/
def u₀ : UU := (initOf (Pipeline.cells cfgs cellOf_inj) (Pipeline.launchToks cfgs cellOf_inj), initOf allCells allToks)

/-- The duties of a device's own cells. -/
def ownToks (c : Dev nD) : sProp 𝕄 :=
  iprop((bigSep Finset.univ fun k : Fin 4 => dutyTok ER (barCell c) 0 k)
    ∗ (bigSep Finset.univ fun s : Fin 12 => dutyTok ER (sendCell c s) 0 0) ∗ (bigSep Finset.univ fun s : Fin 12 => dutyTok ER (recvCell c s) 0 0))
/-- The duties a device pays. -/
def payToks (c : Dev nD) : sProp 𝕄 :=
  iprop((bigSep Finset.univ fun k : Fin 4 => dutyTok ER (barCell (peer k c)) 0 k) ∗ (bigSep Finset.univ fun s : Fin 12 => tok c s))

/-- A device's positions on its cells. -/
def positions (c : Dev nD) : sProp 𝕄 := bigSep Finset.univ fun k : Cell => atPos ER (kcell (c, k)) 0 ∅ 0

/-- What the launch deals a device. -/
def G (c : Dev nD) : sProp 𝕄 :=
  iprop((bigSep Finset.univ fun k : Cell => roundState ER (sched A) (kcell (c, k)) 0)
    ∗ (bigSep Finset.univ fun k : Cell => iprop(atPos ER (kcell (c, k)) 0 ∅ 0 ∗ reached ER (kcell (c, k)) 0)) ∗ ownToks c)
/-- What it starts from. -/
def ghost (c : Dev nD) : sProp 𝕄 := iprop(∃ K, records A K ∗ positions c ∗ payToks c)

/-- The cells' ghost state at the launch, dealt to the devices. -/
theorem fund_cells : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_sum]; rfl
  iintro HX
  imod (Rounds.fund ER (sched A) allCells allToks) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-! ## The semaphores -/

/-- The semaphores a kernel owns, at zero, are its send and its receive cells. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 12 => semVal (sendCell c s) 0) ∗ (bigSep Finset.univ fun s : Fin 12 => semVal (recvCell c s) 0)) := by
  unfold Pipeline.ownSems0
  rw [bigSep_univ_equiv (finSumFinEquiv (m := 12) (n := 12)), bigSep_univ_sum]
  have h1 (s : Fin 12) : osem (finSumFinEquiv (m := 12) (n := 12) (.inl s)) = .dma (sendS s) := by
    revert s; decide
  have h2 (s : Fin 12) : osem (finSumFinEquiv (m := 12) (n := 12) (.inr s)) = .dma (recvS s) := by
    revert s; decide
  simp only [h1, h2]
  rfl
/-- The only semaphore outside the kernel is the barrier cell. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's cells at zero. -/
def zeros (c : Dev nD) : sProp 𝕄 := bigSep Finset.univ fun k : Cell => semVal (kcell (c, k)) 0
/-- All cells at zero are the barrier cell and the owned semaphores at zero. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; unfold zeros; rw [eachCell]

/-- A device's cells at zero become invariants. -/
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (zeros_eq (F := F) c).symm) $$ [Hos Hus]
  · iframe Hus Hos
  imod (show iprop(zeros c ∗ bigSep Finset.univ fun k : Cell => roundState ER (sched A) (kcell (c, k)) 0)
      ⊢ (|={Set.univ}=> bigSep Finset.univ fun k => iprop(∃ κ : ℕ, cellInv ER (sched A) κ (kcell (c, k))) : sProp 𝕄) from by
        unfold zeros
        rw [← bigSep_sep']
        exact (bigSep_mono fun k _ => (Rounds.body_intro ER (sched A) (kcell (c, k))).trans inv_alloc).trans (bigSep_fupd _ _)) $$ [Hv Hst] with Hinv
  · iframe Hv Hst
  imodintro
  iframe Hinv Hat Htok

/-! ## The duties dealt -/

/-- Every duty goes to the device that pays it: a barrier duty, a receive duty to the partner across the exchange. -/
theorem deal : (bigSep Finset.univ fun c : Dev nD => (ownToks c : sProp 𝕄)) ⊢ bigSep Finset.univ fun c : Dev nD => payToks c := by
  have hb : (bigSep Finset.univ fun c : Dev nD => bigSep Finset.univ fun k : Fin 4 => (dutyTok ER (barCell c) 0 k : sProp 𝕄))
      = bigSep Finset.univ fun c : Dev nD => bigSep Finset.univ fun k : Fin 4 => (dutyTok ER (barCell (peer k c)) 0 k : sProp 𝕄) := by
    rw [bigSep_univ_comm, bigSep_univ_comm (fun (c : Dev nD) (k : Fin 4) => (dutyTok ER (barCell (peer k c)) 0 k : sProp 𝕄))]
    exact bigSep_congr fun k _ => bigSep_univ_equiv (swap k) (fun c : Dev nD => (dutyTok ER (barCell c) 0 k : sProp 𝕄))
  have hr : (bigSep Finset.univ fun c : Dev nD => bigSep Finset.univ fun s : Fin 12 => (dutyTok ER (recvCell c s) 0 0 : sProp 𝕄))
      = bigSep Finset.univ fun c : Dev nD => bigSep Finset.univ fun s : Fin 12 => (dutyTok ER (recvCell (pr s c) s) 0 0 : sProp 𝕄) := by
    rw [bigSep_univ_comm, bigSep_univ_comm (fun (c : Dev nD) (s : Fin 12) => (dutyTok ER (recvCell (pr s c) s) 0 0 : sProp 𝕄))]
    exact bigSep_congr fun s _ => bigSep_univ_equiv (swap (dir s)) (fun c : Dev nD => (dutyTok ER (recvCell c s) 0 0 : sProp 𝕄))
  unfold ownToks payToks tok
  simp only [bigSep_sep']
  rw [hb, hr]

/-- What may be used again and again may be used at every index. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants, positions and duties together give every device what it starts from. -/
theorem regroup :
    (bigSep Finset.univ fun c : Dev nD => iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ ownToks c) : sProp 𝕄)
      ⊢ bigSep Finset.univ (ghost A) := by
  rw [bigSep_sep', bigSep_sep', ← bigSep_univ_prod (fun ck : Dev nD × Cell => iprop(∃ κ : ℕ, cellInv ER (sched A) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched A) κ (kcell ck) : sProp 𝕄))) $$ HI
  icases HK with ⟨%K, #HI⟩
  ihave Htk := (deal (F := F)) $$ Htok
  iapply (with_persistent (R := records A K) (Φ := fun c => iprop(positions c ∗ payToks c)) fun c _ => show iprop(records A K ∗ positions c ∗ payToks c) ⊢ ghost A c from (by
    unfold ghost
    iintro H; iexists K; iexact H))
  isplitr
  · unfold records; isplitl; · iexact HI
    iexact HR
  · iapply (Entails.of_eq (bigSep_sep' Finset.univ positions payToks).symm)
    unfold positions
    iframe Hat Htk

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (ghost A) :=
  ((bigSep_mono fun c _ => core_alloc A c).trans (bigSep_fupd _ _)).trans (BI.fupd_mono (regroup A))

end Cert.KI

end
-- ==== Proof.KI.Credits.lean ====
/- What the devices owe at the launch, counted at each cell, is what its owner may wait for. -/
module

public import proofs.«01_k».proof.Proof.KI.Ghost

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ UU ℕ

/-- Barrier cells are equal just when their devices are. -/
theorem bar_eq {a b : Dev nD} : Iff (barCell a = barCell b) (a = b) :=
  ⟨fun h => congrArg (fun g : GSem nD τ sig => g.1.1) h, fun h => h ▸ rfl⟩
/-- Receive cells are equal just when their devices and their transfers are. -/
theorem recv_eq {a b : Dev nD} {s t : Fin 12} : Iff (recvCell a s = recvCell b t) (a = b ∧ s = t) :=
  ⟨fun h => by
    have h' := kcell_injective (a₁ := (a, some (.inr s))) (a₂ := (b, some (.inr t))) h
    exact ⟨congrArg Prod.fst h', Sum.inr.inj (Option.some.inj (congrArg Prod.snd h'))⟩, fun h => by rw [h.1, h.2]⟩
/-- A barrier cell is no receive cell. -/
theorem bar_ne_recv (a b : Dev nD) (s : Fin 12) : barCell a ≠ recvCell b s := fun h => by
  have h' := kcell_injective (a₁ := (a, none)) (a₂ := (b, some (.inr s))) h
  exact absurd (congrArg Prod.snd h') (by intro h; cases h)

/-- What a device owes a barrier cell: a unit for each partner it is. -/
theorem owed_bar (d c : Dev nD) : O₀ d (barCell c) () = ∑ k : Fin 4, if d = peer k c then 1 else 0 := by
  unfold O₀ owedB owedR
  rw [Pi.add_apply, Finsupp.add_apply, Finset.sum_apply, Finsupp.finset_sum_apply, Finset.sum_apply, Finsupp.finset_sum_apply,
    Finset.sum_eq_zero (fun s _ => by rw [tallyAt_ne_cell (bar_ne_recv c _ s), Finsupp.zero_apply]), Nat.zero_add,
    Finset.filter_true_of_mem (fun k _ => Nat.zero_le _)]
  refine Finset.sum_congr rfl fun k _ => ?_
  rw [tallyAt_apply]
  refine if_congr ?_ rfl rfl
  rw [bar_eq]
  exact ⟨fun h => by rw [h.1, peer_peer], fun h => ⟨by rw [h, peer_peer], rfl⟩⟩

/-- What a device owes a receive cell: its transfer's credit, if it is the partner. -/
theorem owed_recv (d c : Dev nD) (s : Fin 12) : O₀ d (recvCell c s) () = if d = pr s c then cr s else 0 := by
  unfold O₀ owedB owedR
  rw [Pi.add_apply, Finsupp.add_apply, Finset.sum_apply, Finsupp.finset_sum_apply, Finset.sum_apply, Finsupp.finset_sum_apply,
    Finset.sum_eq_zero (s := Finset.univ.filter fun i : Fin 4 => 0 ≤ i.val) (fun k _ => by rw [tallyAt_ne_cell (bar_ne_recv _ c s).symm, Finsupp.zero_apply]),
    Nat.add_zero, Finset.filter_true_of_mem (fun k _ => Nat.zero_le _), Finset.sum_eq_single s]
  · rw [tallyAt_apply]
    refine if_congr ?_ rfl rfl
    rw [recv_eq]
    exact ⟨fun h => by rw [h.1.1]; unfold pr; rw [peer_peer], fun h => ⟨⟨by rw [h]; unfold pr; rw [peer_peer], rfl⟩, rfl⟩⟩
  · intro t _ ht
    rw [tallyAt_apply, if_neg]
    rintro ⟨h, -⟩
    exact ht (recv_eq.mp h).2.symm
  · intro h; exact absurd (Finset.mem_univ s) h

/-- The launch lets a device wait for four units at its barrier cell. -/
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (peer k c) fun _ => 1).trans (if_pos (Finset.mem_univ _))]
  rfl
/-- The launch lets a device wait for a transfer's credit at each of its receive cells. -/
theorem launch_recv (c : Dev nD) (s : Fin 12) :
    tallyOn (recvCell c s) (launchCredit (Pipeline.owing O₀) 0 (recvCell c s)) = (tallyAt (recvCell c s) () (cr s) : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (pr s c) fun _ => cr s, if_pos (Finset.mem_univ _)]

/-- What a device may wait for: four units at its barrier cell, a transfer's credit at each receive cell. -/
def credits (c : Dev nD) : sProp 𝕄 :=
  iprop(cred (tallyAt (barCell c) () 4) ∗ bigSep Finset.univ fun s : Fin 12 => cred (tallyAt (recvCell c s) () (cr s)))

/-- What the launch lets a device wait for holds all that the body waits for. -/
theorem credits_intro (c : Dev nD) : (Pipeline.launchCred O₀ c : sProp 𝕄) ⊢ credits c := by
  unfold Pipeline.launchCred credits
  have h0 : (bigSep Finset.univ fun sm : SemLoc sig => cred (tallyOn (c.tc, sm) (launchCredit (Pipeline.owing O₀) 0 (c.tc, sm))) : sProp 𝕄)
      ⊢ bigSep Finset.univ fun k : Cell => cred (tallyOn (c.tc, csem k) (launchCredit (Pipeline.owing O₀) 0 (c.tc, csem k))) := by
    have h := bigSep_subset (Finset.subset_univ (Finset.univ.map ⟨csem, csem_injective⟩))
      (Φ := fun sm : SemLoc sig => (cred (tallyOn (c.tc, sm) (launchCredit (Pipeline.owing O₀) 0 (c.tc, sm))) : sProp 𝕄))
    rw [bigSep_map] at h
    exact h
  have h1 : (cred (tallyOn (barCell c) (launchCredit (Pipeline.owing O₀) 0 (barCell c))) : sProp 𝕄) ⊢ cred (tallyAt (barCell c) () 4) :=
    Entails.of_eq (congrArg cred (launch_bar c))
  have h2 : (bigSep Finset.univ fun s : Fin 12 => cred (tallyOn (recvCell c s) (launchCredit (Pipeline.owing O₀) 0 (recvCell c s))) : sProp 𝕄)
      ⊢ bigSep Finset.univ fun s : Fin 12 => cred (tallyAt (recvCell c s) () (cr s)) :=
    bigSep_mono fun s _ => Entails.of_eq (congrArg cred (launch_recv c s))
  rw [eachCell] at h0
  iintro H
  ihave H' := h0 $$ H
  icases H' with ⟨H1, -, H2⟩
  isplitl [H1]
  · iapply h1; iexact H1
  iapply h2; iexact H2

end Cert.KI

end
-- ==== Proof.KI.Run.lean ====
/- The run of the kernel: from any memory with zero counters every device's result array ends at the contents the body leaves,
   its argument arrays end unchanged and every counter ends at zero. -/
module

public import proofs.«01_k».proof.Proof.KI.Credits
public import proofs.«01_k».proof.Proof.Gen.KernelIdeal.Points
public import Idealize.ShloMosaic.Lib.Pipeline.CollectiveSegs

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' argument arrays as the body reads them. -/
def inp : Inp F where
  x c := (win0_0.blk (0 : Fin 1)).view.read (Elt F) (m ((c : Thread nD τ).loc main_arg0))
  w c := (win0_1.blk (0 : Fin 1)).view.read (Elt F) (m ((c : Thread nD τ).loc main_arg1))
  ix c := (win0_2.blk (0 : Fin 1)).view.read (Elt F) (m ((c : Thread nD τ).loc main_arg2))
  e c := (win0_3.blk (0 : Fin 1)).view.read (Elt F) (m ((c : Thread nD τ).loc main_arg3))

/-- What the launch leaves a device to start from: its ghost state, its credits and the levels. -/
def start (c : Dev nD) : sProp 𝕄 := iprop(ghost (inp m) c ∗ credits c ∗ levAts L lv)
/-- What a device holds besides the staged arrays before the body, -/
def Φ₀ (c : Dev nD) : sProp 𝕄 := iprop(start m c ∗ wholes c)
/-- and after it. -/
def Φ₁ (c : Dev nD) : sProp 𝕄 := iprop(wholes c ∗ zeros c)

/-- The arrays, their staged contents after the body, and what a device holds and owes before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).w c
    | ⟨2, _⟩ => (inp m).ix c
    | ⟨3, _⟩ => (inp m).e c
    | ⟨4, _⟩ => outAt (inp m) c ![4, 5, 5, 4, 5, 5]
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staged array. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- Owning a whole staged array is holding it at its contents. -/
theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

section Body
variable (A : Inp F) (K : Dev nD × Cell → ℕ) (c : Dev nD)

/-- Before the body each transfer has its places, its duties and its cells. -/
theorem slots_in :
    iprop((bigSep Finset.univ fun s => sndAny c s) ∗ (bigSep Finset.univ fun s => tok c s) ∗ (bigSep Finset.univ fun s => atS c s)
        ∗ (bigSep Finset.univ fun s : Fin 12 => cred (tallyAt (recvCell c s) () (cr s))) ∗ (bigSep Finset.univ fun s => atPos ER (recvCell c s) 0 ∅ 0))
      ⊢ (bigSep Finset.univ fun s => slotIn A c s : sProp 𝕄) := by
  simp only [← bigSep_sep']
  refine bigSep_mono fun s _ => ?_
  unfold slotIn coming sndAny
  show iprop((∃ f, sndPts c s f) ∗ tok c s ∗ atS c s ∗ cred (tallyAt (recvCell c s) () (cr s)) ∗ atPos ER (recvCell c s) 0 ∅ 0)
    ⊢ iprop(sndHas A c s (fun _ => False) ∗ tok c s ∗ atS c s ∗ cred (tallyAt (recvCell c s) () (cr s)) ∗ atPos ER (recvCell c s) 0 ∅ 0)
  iintro ⟨⟨%f, H1⟩, H2, H3, H4, H5⟩
  isplitl [H1]; · iapply (sndHas_none A c s f); iexact H1
  iframe H2 H3 H4 H5

/-- After it the places come back and the cells are at zero. -/
theorem slots_out :
    (bigSep Finset.univ fun s => slotOut A c s : sProp 𝕄)
      ⊢ iprop((bigSep Finset.univ fun s => sndAny c s) ∗ (bigSep Finset.univ fun s => rcvAny c s)
        ∗ (bigSep Finset.univ fun s => semVal (sendCell c s) 0) ∗ (bigSep Finset.univ fun s => semVal (recvCell c s) 0)) := by
  simp only [← bigSep_sep']
  refine bigSep_mono fun s _ => ?_
  unfold slotOut sentDone rcvDone sndAny rcvAny
  show iprop((sndPts c s (sent A c) ∗ semVal (sendCell c s) 0) ∗ rcvPts c s (sent A (pr s c)) ∗ semVal (recvCell c s) 0)
    ⊢ iprop((∃ f, sndPts c s f) ∗ (∃ f, rcvPts c s f) ∗ semVal (sendCell c s) 0 ∗ semVal (recvCell c s) 0)
  iintro ⟨⟨H1, H2⟩, H3, H4⟩
  isplitl [H1]; · iexists _; iexact H1
  isplitl [H3]; · iexists _; iexact H3
  iframe H2 H4

/-- The places of the receive buffer are what goes to the four partners. -/
theorem handed_intro : (bigSep Finset.univ fun s => rcvAny c s : sProp 𝕄) ⊢ iprop(handed c 0 ∗ handed c 1 ∗ handed c 2 ∗ handed c 3) := by
  rw [each12, handed0, handed1, handed2, handed3]
  iintro ⟨H0, H1, H2, H3, H4, H5, H6, H7, H8, H9, H10, H11⟩
  iframe H0 H1 H2 H3 H4 H5 H6 H7 H8 H9 H10 H11

/-- What the launch gives is what the body starts from. -/
theorem bodyIn_intro :
    iprop(owingB c 0 ∗ positions c ∗ payToks c ∗ credits c ∗ wholes c ∗ argPts A c ∗ outHas A c (fun _ => False))
      ⊢ iprop(bodyIn A c ∗ spare c) := by
  unfold positions payToks credits bodyIn barIn
  rw [eachCell, each4, ← each12 (fun s => slotIn A c s)]
  iintro ⟨HO, ⟨Hp, HaS, HaR⟩, ⟨⟨B0, B1, B2, B3⟩, Ht⟩, ⟨Hc, HcR⟩, Hw, Ha, Ho⟩
  ihave Hw' := (wholes_cut (F := F) c) $$ Hw
  icases Hw' with ⟨Hs, Hr, Hsp⟩
  ihave Hh := (handed_intro (F := F) c) $$ Hr
  ihave Hin := (slots_in A c) $$ [Hs Ht HaS HcR HaR]
  · isplitl [Hs]; · iexact Hs
    isplitl [Ht]; · iexact Ht
    isplitl [HaS]; · iexact HaS
    isplitl [HcR]; · iexact HcR
    iexact HaR
  icases Hh with ⟨N0, N1, N2, N3⟩
  iframe HO B0 B1 B2 B3 N0 N1 N2 N3 Hc Hp Ha Ho Hin Hsp

/-- What the body ends with, sorted: nothing owed, both buffers whole, all cells at zero, the arguments and the result. -/
theorem bodyOut_elim : iprop(bodyOut A c ∗ spare c)
    ⊢ iprop(owing c 12 ∗ Φ₁ c ∗ argPts A c ∗ outPts A c ![4, 5, 5, 4, 5, 5]) := by
  unfold bodyOut Φ₁ zeros
  rw [eachCell, ← each12 (fun s => slotOut A c s)]
  iintro ⟨⟨HO, Hz, Ha, Ho, Hs⟩, Hsp⟩
  ihave Hs' := (slots_out A c) $$ Hs
  icases Hs' with ⟨H1, H2, H3, H4⟩
  ihave Hw := (wholes_uncut (F := F) c) $$ [H1 H2 Hsp]
  · iframe H1 H2 Hsp
  iframe HO Hw Hz H3 H4 Ha Ho

end Body

/-- What the body starts from, with the staged arrays. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- What the body leaves, with the staged arrays. -/
def bodyPost (c : Dev nD) : sProp 𝕄 :=
  iprop(Φ₁ c ∗ (dats m ρ 0 c).owesAt () t0_0.succ ∗ stg c cc0_stg0_0 ((inp m).x c) ∗ stg c cc0_stg1_0 ((inp m).w c)
    ∗ stg c cc0_stg2_0 ((inp m).ix c) ∗ stg c cc0_stg3_0 ((inp m).e c) ∗ stg c cc0_stg4_0 (outAt (inp m) c ![4, 5, 5, 4, 5, 5]))

/-- The body leads from the one to the other. -/
theorem sound_body (c : Dev nD) : bodyPre m ρ c
    ⊢ wp frame (wpE (defs₀ (F := F)) 𝒱₀ (c : Thread nD τ) none) Set.univ (onArgs (cc0_body (F := F))) (fun _ => bodyPost m ρ c) := by
  unfold bodyPre Φ₀ start ghost
  iintro ⟨⟨⟨⟨%K, #Hrec, Hpos, Htok⟩, Hcr, #Hlev⟩, Hw⟩, Ho, ⟨%d0, %f0, %hf0, Hx⟩, ⟨%d1, %f1, %hf1, Hr⟩, ⟨%d2, %f2, %hf2, Hi⟩, ⟨%d3, %f3, %hf3, He⟩, ⟨%d4, %f4, -, Hout⟩⟩
  have h0 : f0 = (inp m).x c := by rw [hf0]; unfold Dat.before; rw [if_pos (fetch0_0 t0_0)]; rfl
  have h1 : f1 = (inp m).w c := by rw [hf1]; unfold Dat.before; rw [if_pos (fetch0_1 t0_0)]; rfl
  have h2 : f2 = (inp m).ix c := by rw [hf2]; unfold Dat.before; rw [if_pos (fetch0_2 t0_0)]; rfl
  have h3 : f3 = (inp m).e c := by rw [hf3]; unfold Dat.before; rw [if_pos (fetch0_3 t0_0)]; rfl
  clear hf0 hf1 hf2 hf3
  subst h0 h1 h2 h3
  unfold Dat.owesAt Pipeline.owesWithin
  icases Ho with ⟨%W, %hW, HO⟩
  rw [show (dats m ρ 0 c).owed t0_0.castSucc = owedB c 0 from rfl]
  ihave Hin := (bodyIn_intro (inp m) c) $$ [HO Hpos Htok Hcr Hw Hx Hr Hi He Hout]
  · unfold owingB argPts xPts wPts iPts ePts outHas
    isplitl [HO]; · iexists W; iexact HO
    iframe Hpos Htok Hcr Hw Hx Hr Hi He
    iexists f4
    isplitr; · ipureintro; exact fun _ h => h.elim
    iexact Hout
  icases Hin with ⟨Hin, Hsp⟩
  iapply (body_ok (inp m) K c (fun _ => bodyPost m ρ c))
  isplitr
  · unfold facts; isplitl; · iexact Hrec
    iexact Hlev
  isplitl [Hin]; · iexact Hin
  iintro Hend
  ihave Hend' := (bodyOut_elim (inp m) c) $$ [Hend Hsp]
  · iframe Hend Hsp
  unfold owing argPts xPts wPts iPts ePts outPts
  icases Hend' with ⟨⟨%W', HO⟩, H1, ⟨Hx, Hr, Hi, He⟩, Hout⟩
  unfold bodyPost Dat.owesAt Pipeline.owesWithin
  rw [show (dats m ρ 0 c).owed t0_0.succ = 0 from rfl, owedR_last]
  isplitl [H1]; · iexact H1
  isplitl [HO]
  · iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hi]; · iexists _; isplitr; · (ipureintro; rfl)
                  iexact Hi
  isplitl [He]; · iexists _; isplitr; · (ipureintro; rfl)
                  iexact He
  iexists _; isplitr; · (ipureintro; rfl)
  iexact Hout

attribute [local irreducible] cc0_body

set_option maxRecDepth 4000 in
/-- The body does what the launch asks of it. -/
theorem body_obligation (c : Dev nD) : BodyObligation (dats (F := F) m ρ 0 c) (defs₀ (F := F)) 𝒱₀ () Set.univ := fun t => by
  rw [fin_N0 t]
  rw [bigSep_W0, bigSep_W0]
  simp only [stg_eq]
  show bodyPre m ρ c ⊢ wp frame (wpE (defs₀ (F := F)) 𝒱₀ (c : Thread nD τ) none) Set.univ (onArgs (cc0_body (F := F))) (fun _ => bodyPost m ρ c)
  exact sound_body m ρ c

/-! ## The launch -/

/-- The kernel's semaphores are different and not the staging's. -/
theorem ownSemFacts : Pipeline.OwnSemFacts cfg0.spec osem := by decide

/-- Every staged array is held whole. -/
theorem share_eq (c : Dev nD) (w : Fin cfg0.W) : (dats m ρ 0 c).share w = fullShare := by unfold Dat.share; split <;> rfl

/-- What the launch deals a device holds what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (inp m) c)
      ⊢ |={Set.univ}=> iprop(start m c ∗ emp) := by
  iintro ⟨-, Hlev, Hcr, -, HG⟩
  ihave Hc := (credits_intro (F := F) c) $$ Hcr
  imodintro
  unfold start
  iframe HG Hc Hlev

/-- With both buffers it is all that the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ wholes
  iintro ⟨Hs, -, Hr⟩
  isplitl [Hs]; · iexact Hs
  iexact Hr

/-- After the body the semaphores are at zero and the buffers are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ wholes
  rw [zeros_eq]
  iintro ⟨Hr, Hu, Ho⟩
  isplitl [Hu]; · iexact Hu
  isplitl [Ho]; · iexact Ho
  iexact Hr

/-- The waits of the staging are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each array holds after the run. -/
def finalA (c : Dev nD) (w : Fin cfg0.W) : Buf (Elt F) ((cfg0.win w).arr.view.loc (c : Thread nD τ)) := (dats m ρ 0 c).arrAt w cfg0.N

/-- Every array holds what it should after the run. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, with each device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := ghost (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KI

end
-- ==== Proof.KI.Finish.lean ====
/- What the arrays of a device hold after the run: the arguments what they held, the result what the body leaves. -/
module

public import proofs.«01_k».proof.Proof.KI.Run

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The activations that a device's body reads are those in the device's memory. -/
theorem inp_x (c : Dev nD) : (inp m).x c = m ((c : Thread nD τ).loc main_arg0) := by
  show (win0_0.blk (0 : Fin 1)).view.read (Elt F) (m ((c : Thread nD τ).loc main_arg0)) = _
  exact Memref.read_access_unit_zero (Elt F) main_arg0 (funext fun a => by fin_cases a <;> decide) (fun a => by fin_cases a <;> decide) _
/-- The router's matrix that a device's body reads is the one in the device's memory. -/
theorem inp_w (c : Dev nD) : (inp m).w c = m ((c : Thread nD τ).loc main_arg1) := by
  show (win0_1.blk (0 : Fin 1)).view.read (Elt F) (m ((c : Thread nD τ).loc main_arg1)) = _
  exact Memref.read_access_unit_zero (Elt F) main_arg1 (funext fun a => by fin_cases a <;> decide) (fun a => by fin_cases a <;> decide) _
/-- The routing table that a device's body reads is the one in the device's memory. -/
theorem inp_ix (c : Dev nD) : (inp m).ix c = m ((c : Thread nD τ).loc main_arg2) := by
  show (win0_2.blk (0 : Fin 1)).view.read (Elt F) (m ((c : Thread nD τ).loc main_arg2)) = _
  exact Memref.read_access_unit_zero (Elt F) main_arg2 (funext fun a => by fin_cases a <;> decide) (fun a => by fin_cases a <;> decide) _
/-- The experts' matrices that a device's body reads are those in the device's memory. -/
theorem inp_e (c : Dev nD) : (inp m).e c = m ((c : Thread nD τ).loc main_arg3) := by
  show (win0_3.blk (0 : Fin 1)).view.read (Elt F) (m ((c : Thread nD τ).loc main_arg3)) = _
  exact Memref.read_access_unit_zero (Elt F) main_arg3 (funext fun a => by fin_cases a <;> decide) (fun a => by fin_cases a <;> decide) _

/-- The activations in the device's memory end unchanged. -/
theorem final_x (c : Dev nD) : finalA m ρ c (0 : Fin 5) = m ((c : Thread nD τ).loc main_arg0) := (dats m ρ 0 c).arrAt_in (0 : Fin 5) rfl _
/-- The router's matrix in the device's memory ends unchanged. -/
theorem final_w (c : Dev nD) : finalA m ρ c (1 : Fin 5) = m ((c : Thread nD τ).loc main_arg1) := (dats m ρ 0 c).arrAt_in (1 : Fin 5) rfl _
/-- The routing table in the device's memory ends unchanged. -/
theorem final_ix (c : Dev nD) : finalA m ρ c (2 : Fin 5) = m ((c : Thread nD τ).loc main_arg2) := (dats m ρ 0 c).arrAt_in (2 : Fin 5) rfl _
/-- The experts' matrices in the device's memory end unchanged. -/
theorem final_e (c : Dev nD) : finalA m ρ c (3 : Fin 5) = m ((c : Thread nD τ).loc main_arg3) := (dats m ρ 0 c).arrAt_in (3 : Fin 5) rfl _

/-- The result array ends at the contents the body leaves in its staged copy. -/
theorem final_out (c : Dev nD) : finalA m ρ c (4 : Fin 5) = outAt (inp m) c ![4, 5, 5, 4, 5, 5] := by
  have h : (win0_4.blk (0 : Fin 1)).view.read (Elt F) (finalA m ρ c (4 : Fin 5)) = outAt (inp m) c ![4, 5, 5, 4, 5, 5] := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  rw [← h]
  exact (Memref.read_access_unit_zero (Elt F) main_v1 (funext fun a => by fin_cases a <;> decide) (fun a => by fin_cases a <;> decide) _).symm

/-- Every weakly fair execution ends, with the arguments unchanged, every counter at zero, and each device's result array at
    the contents the body leaves. -/
theorem run_ends : θ_run defs (onTc (τ := τ) (main (F := F))) (s₀ m ρ) (fun r => (∀ c : Dev nD,
      r.2.mem ((c : Thread nD τ).loc main_v1) = outAt (inp m) c ![4, 5, 5, 4, 5, 5]
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨(h.1 c (4 : Fin 5)).trans (final_out m ρ c), (h.1 c (0 : Fin 5)).trans (final_x m ρ c),
    (h.1 c (1 : Fin 5)).trans (final_w m ρ c), (h.1 c (2 : Fin 5)).trans (final_ix m ρ c), (h.1 c (3 : Fin 5)).trans (final_e m ρ c)⟩, h.2⟩)
    (run_main m ρ)

end Cert.KI

end
-- ==== Proof.Frames.lean ====
/- The frame claims: each program runs to the end from any memory, its arguments end unchanged and its counters at zero. -/
module

public import proofs.«01_k».proof.Defs
public import proofs.«01_k».proof.Proof.Gen.Kernel
public import proofs.«01_k».proof.Proof.KI.Finish
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's body is the exact kernel's, read at machine floats. -/
theorem calls_eq : Cert.Kernel.defs₀ (F := Bits) = Cert.KernelIdeal.defs₀ (F := Bits) := by
  unfold Cert.Kernel.defs₀ Cert.KernelIdeal.defs₀
  congr 1
  funext l x
  match l, x with
  | 0, (t, s) => rfl

/-- So are its body and its launch together. -/
theorem defs_eq : Cert.Kernel.defs (F := Bits) = Cert.KernelIdeal.defs (F := Bits) := by
  unfold Cert.Kernel.defs
  rw [calls_eq]
  rfl

/-- The kernel at machine floats: the exact kernel's run, which is proved for any floats, at these. -/
theorem frame_kernel : Cert.quiescent_Kernel := by
  intro m ρ _
  rw [defs_eq]
  exact (θ_run Cert.KernelIdeal.defs _ _).mono (fun _ h => ⟨fun c => (h.1 c).2, h.2⟩) (Cert.KI.run_ends (F := Bits) m ρ)

/-- The kernel at exact numbers. -/
theorem frame_ideal : Cert.quiescent_KernelIdeal := by
  intro m ρ _
  exact (θ_run Cert.KernelIdeal.defs _ _).mono (fun _ h => ⟨fun c => (h.1 c).2, h.2⟩) (Cert.KI.run_ends (F := Ideal) m ρ)

/-- The reference at exact numbers, which declares no counter. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Val.Sum.lean ====
/- The all-reduce over the extended reals: the sum after four steps, on every device, is the sum over all sixteen. -/
module

public import proofs.«01_k».proof.Proof.KI.Content
public import Idealize.ShloMosaic.PureOps.Ideal

@[expose] public section

noncomputable section

namespace Cert.Val

open Cert.KernelIdeal Cert.KernelIdeal.Gen Cert.KI
open Idealize.ShloMosaic Idealize.ShloMosaic.TcCoe

/-- The devices whose partial results a device's sum holds after exchanges with the partners listed, the last one first. -/
def reach : List (Fin 4) → Dev nD → List (Dev nD)
  | [], c => [c]
  | k :: ks, c => reach ks c ++ reach ks (peer k c)

/-- Four exchanges reach every device once, whichever of the two neighbours in the plane comes first. -/
theorem reach_all (c : Dev nD) : (reach [3, 2, 1, 0] c).Perm (List.finRange 16) ∧ (reach [3, 2, 0, 1] c).Perm (List.finRange 16) := by
  revert c; decide +kernel

variable (A : Inp Ideal)

/-- The partners of a row's first `n` steps, the last one first. -/
def steps (r : ℕ) : ℕ → List (Fin 4)
  | 0 => []
  | n + 1 => pt n r :: steps r n

/-- The sum after `n` steps is the sum over the devices reached: rounding to the narrow type changes nothing here. -/
theorem acc_reach (n : ℕ) (c : Dev nD) (r j : ℕ) : acc A n c r j = ((reach (steps r n) c).map fun d => part A d r j).sum := by
  induction n generalizing c with
  | zero => simp [steps, reach, acc]
  | succ n ih =>
    have h : acc A (n + 1) c r j = acc A n c r j + acc A n (peer (pt n r) c) r j := rfl
    rw [h, ih, ih, steps, reach, List.map_append, List.sum_append]

/-- After four steps every device holds the sum over all sixteen. -/
theorem acc_all (c : Dev nD) (r j : ℕ) : acc A 4 c r j = ∑ d : Dev nD, part A d r j := by
  have hs : (reach (steps r 4) c).Perm (List.finRange 16) := by
    have h := reach_all c
    by_cases hr : r < 256
    · have e : steps r 4 = [3, 2, 1, 0] := by simp [steps, pt, hr]
      rw [e]; exact h.1
    · have e : steps r 4 = [3, 2, 0, 1] := by simp [steps, pt, hr]
      rw [e]; exact h.2
  rw [acc_reach, (hs.map _).sum_eq]
  exact (Fin.sum_univ_def _).symm

/-- The result array at the end holds that sum at every index, on every device. -/
theorem out_all (c : Dev nD) (i : S512x512.Idx) : outAt A c ![4, 5, 5, 4, 5, 5] i = ∑ d : Dev nD, part A d (i 0).val (i 1).val := by
  have h : ∀ ρ : Fin 6, val A ((![4, 5, 5, 4, 5, 5] : Fin 6 → ℕ) ρ) c (i 0).val (i 1).val = ∑ d : Dev nD, part A d (i 0).val (i 1).val := by
    have h4 : val A 4 c (i 0).val (i 1).val = ∑ d : Dev nD, part A d (i 0).val (i 1).val := acc_all A c _ _
    have h5 : val A 5 c (i 0).val (i 1).val = ∑ d : Dev nD, part A d (i 0).val (i 1).val := acc_all A (own (i 0).val c) _ _
    intro ρ
    fin_cases ρ
    exacts [h4, h5, h5, h4, h5, h5]
  exact h _

end Cert.Val

end
-- ==== Proof.Val.Route.lean ====
/- A row's routing over the extended reals: the softmax of its 64 scores, the two weights it leads to, and why the weighted
   sum over all 64 experts is the sum over the two routed ones. -/
module

public import Idealize.ShloMosaic.PureOps.Ideal

@[expose] public section

noncomputable section

namespace Cert.Val

open Idealize.ShloMosaic

/-- The greatest of 64 scores. -/
def top (s : Fin 64 → EReal) : EReal := Finset.univ.fold max ⊥ s
/-- An expert's probability: the softmax of the scores. -/
def prob (s : Fin 64 → EReal) (e : Fin 64) : EReal := Ideal.div (Ideal.exp (s e - top s)) (∑ e', Ideal.exp (s e' - top s))
/-- An expert's weight when `a` and `b` are routed to: its share of their two probabilities, and nothing for any other. -/
def wt (s : Fin 64 → EReal) (a b e : Fin 64) : EReal := Ideal.div (if e = a ∨ e = b then prob s e else 0) (prob s a + prob s b)

/-- The greatest of real scores is one of them. -/
theorem top_mem (s : Fin 64 → EReal) : ∃ e, top s = s e := by
  obtain ⟨e, -, he⟩ := Finset.exists_mem_eq_sup (Finset.univ : Finset (Fin 64)) ⟨0, Finset.mem_univ _⟩ s
  exact ⟨e, he⟩

/-- A sum of reals is the same sum over the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The probabilities of real scores are positive reals. -/
theorem prob_real (s : Fin 64 → EReal) (h : ∀ e, ∃ t : ℝ, s e = t) : ∃ p : Fin 64 → ℝ, (∀ e, 0 < p e) ∧ ∀ e, prob s e = p e := by
  choose t ht using h
  obtain ⟨b, hb⟩ := top_mem s
  have hx : ∀ e, Ideal.exp (s e - top s) = ((Real.exp (t e - t b) : ℝ) : EReal) := fun e => by
    rw [hb, ht, ht, ← EReal.coe_sub, Ideal.exp_coe]
  have hs : (∑ e, Ideal.exp (s e - top s)) = ((∑ e, Real.exp (t e - t b) : ℝ) : EReal) := by
    rw [coe_sum]
    exact Finset.sum_congr rfl fun e _ => hx e
  have hp : 0 < ∑ e, Real.exp (t e - t b) := Finset.sum_pos (fun e _ => Real.exp_pos _) ⟨0, Finset.mem_univ _⟩
  refine ⟨fun e => Real.exp (t e - t b) * (1 / ∑ e, Real.exp (t e - t b)), fun e => by positivity, fun e => ?_⟩
  rw [prob, hx, hs, Ideal.div_coe hp.ne', EReal.coe_mul]

/-- A non-negative real factor passes through a finite sum of extended reals. -/
theorem mul_sum_coe {ι : Type} (S : Finset ι) (f : ι → EReal) {c : ℝ} (hc : 0 ≤ c) : ∑ k ∈ S, (c : EReal) * f k = c * ∑ k ∈ S, f k := by
  classical
  induction S using Finset.induction_on with
  | empty => simp
  | insert a S ha ih =>
    rw [Finset.sum_insert ha, Finset.sum_insert ha, ih,
      EReal.left_distrib_of_nonneg_of_ne_top (EReal.coe_nonneg.2 hc) (EReal.coe_ne_top c)]

/-- The mixture of all 64 experts' outputs by their weights is that of the two routed ones. -/
theorem mix (s : Fin 64 → EReal) (hs : ∀ e, ∃ t : ℝ, s e = t) {a b : Fin 64} (hab : a ≠ b) {n : ℕ} (x : Fin n → EReal) (E : Fin 64 → Fin n → EReal) :
    ∑ e, ∑ k, x k * wt s a b e * E e k
      = Ideal.div (prob s a) (prob s a + prob s b) * ∑ k, x k * E a k + Ideal.div (prob s b) (prob s a + prob s b) * ∑ k, x k * E b k := by
  obtain ⟨p, hp, hps⟩ := prob_real s hs
  have hg : prob s a + prob s b = ((p a + p b : ℝ) : EReal) := by rw [hps, hps, EReal.coe_add]
  have hpos : 0 < p a + p b := add_pos (hp a) (hp b)
  have hd : ∀ e, Ideal.div (prob s e) (prob s a + prob s b) = ((p e * (1 / (p a + p b)) : ℝ) : EReal) := fun e => by
    rw [hg, hps, Ideal.div_coe hpos.ne', EReal.coe_mul]
  have hsum : ∀ e, (e = a ∨ e = b) → ∑ k, x k * wt s a b e * E e k = Ideal.div (prob s e) (prob s a + prob s b) * ∑ k, x k * E e k := fun e he => by
    rw [wt, if_pos he, hd, ← mul_sum_coe _ _ (by have := hp e; positivity)]
    exact Finset.sum_congr rfl fun k _ => by rw [mul_comm (x k), mul_assoc]
  have hz : ∀ e, ¬ (e = a ∨ e = b) → ∑ k, x k * wt s a b e * E e k = 0 := fun e he => by
    rw [wt, if_neg he, hg, Ideal.div_coe hpos.ne', zero_mul]
    simp
  rw [← hsum a (.inl rfl), ← hsum b (.inr rfl), ← Finset.sum_pair (f := fun e => ∑ k, x k * wt s a b e * E e k) hab]
  refine (Finset.sum_subset (Finset.subset_univ _) fun e _ he => hz e fun h => he ?_).symm
  simpa using h

end Cert.Val

end
-- ==== Proof.Val.Gates.lean ====
/- What a device's routing computes at an index: the weights of a row, and the four of them that are the device's own. -/
module

public import proofs.«01_k».proof.Proof.KI.Content
public import proofs.«01_k».proof.Proof.Val.Route
public import Idealize.ShloMosaic.Lib.Pointwise

@[expose] public section

noncomputable section

namespace Cert.Val

open Cert.KernelIdeal Cert.KernelIdeal.Gen Cert.KI
open Idealize.ShloMosaic Idealize.ShloMosaic.TcCoe

/-- A row's 64 scores. -/
def scores (X : Fin 512 → Fin 256 → EReal) (W : Fin 256 → Fin 64 → EReal) (r : Fin 512) (e : Fin 64) : EReal := ∑ k, X r k * W k e

/-- The value the maximum of a row starts from is the least one. -/
theorem start_bot : Ideal.ofBits .f32 0xFF800000#32 = ⊥ := by simp [Ideal.ofBits, Ideal.ieee]

/-- Comparing two small numbers' words compares the numbers. -/
theorem cmp_eq {x y : ℕ} (hx : x < 64) (hy : y < 64) :
    IntOp.cmpi .eq (BitVec.ofNat 32 x) (BitVec.ofNat 32 y) = if x = y then 1#1 else 0#1 := by
  have h : BitVec.ofNat 32 x = BitVec.ofNat 32 y ↔ x = y := by
    rw [← BitVec.toNat_inj, BitVec.toNat_ofNat, BitVec.toNat_ofNat, Nat.mod_eq_of_lt (by omega), Nat.mod_eq_of_lt (by omega)]
  by_cases e : x = y
  · simp [IntOp.cmpi, e]
  · have hb : (BitVec.ofNat 32 x == BitVec.ofNat 32 y) = false := beq_false_of_ne fun h' => e (h.1 h')
    rw [if_neg e]
    show BitVec.ofBool (BitVec.ofNat 32 x == BitVec.ofNat 32 y) = 0#1
    rw [hb]; rfl

/-- A selection on two small numbers' words being equal is one on the numbers being equal. -/
theorem sel_eq {α : Type} {x y : ℕ} (hx : x < 64) (hy : y < 64) (u v : α) :
    Scalar.select (IntOp.cmpi .eq (BitVec.ofNat 32 x) (BitVec.ofNat 32 y)) u v = if x = y then u else v := by
  rw [cmp_eq hx hy]
  by_cases e : x = y <;> simp [Scalar.select, e]

/-- The same with either of two numbers. -/
theorem sel_or {α : Type} {x x' y : ℕ} (hx : x < 64) (hx' : x' < 64) (hy : y < 64) (u v : α) :
    Scalar.select (IntOp.ori (IntOp.cmpi .eq (BitVec.ofNat 32 x) (BitVec.ofNat 32 y)) (IntOp.cmpi .eq (BitVec.ofNat 32 x') (BitVec.ofNat 32 y))) u v
      = if y = x ∨ y = x' then u else v := by
  rw [cmp_eq hx hy, cmp_eq hx' hy]
  by_cases e : x = y <;> by_cases e' : x' = y <;> simp [Scalar.select, IntOp.ori, e, e', eq_comm (a := y)]

/-- Selecting one position and adding up leaves that position. -/
theorem sum_sel (f : Fin 64 → EReal) (a : Fin 64) : (∑ e : Fin 64, if a.val = e.val then f e else 0) = f a := by
  rw [Finset.sum_eq_single a (fun e _ h => if_neg fun h' => h (Fin.ext h'.symm)) (fun h => absurd (Finset.mem_univ _) h), if_pos rfl]

/-- The number of expert `k` of a device. -/
def exn (c : Dev nD) (k : Fin 4) : Fin 64 := ⟨c.val * 4 + k.val, by have h : c.val < 16 := c.isLt; omega⟩

/-- The word the program computes for it. -/
theorem exn_word (c : Dev nD) : Scalar.addi (Scalar.muli (devWord c) 4#32) 0#32 = BitVec.ofNat 32 (exn c 0).val
    ∧ Scalar.addi (Scalar.muli (devWord c) 4#32) 1#32 = BitVec.ofNat 32 (exn c 1).val
    ∧ Scalar.addi (Scalar.muli (devWord c) 4#32) 2#32 = BitVec.ofNat 32 (exn c 2).val
    ∧ Scalar.addi (Scalar.muli (devWord c) 4#32) 3#32 = BitVec.ofNat 32 (exn c 3).val := by
  revert c; decide +kernel

section
variable (X : Vec Ideal S512x256 .f32) (W : Vec Ideal S256x64 .f32) (I0 I1 : Vec Ideal S512x1 .i32) (r : Fin 512)

/-- The scores of a row of a device's operands. -/
abbrev sc : Fin 64 → EReal := scores (fun r k => X (ix2 r k)) (fun k e => W (ix2 k e)) r

/-- The probabilities are the softmax of the scores. -/
theorem prob_at (e : Fin 64) : k0_pay10 X W (ix2 r e) = prob (sc X W r) e := by
  pointwise [k0_pay10, k0_pay9]
  rw [start_bot]
  rfl

variable {a b : Fin 64} (ha : I0 (ix2 r 0) = BitVec.ofNat 32 a.val) (hb : I1 (ix2 r 0) = BitVec.ofNat 32 b.val)
include ha hb

/-- The weights of a row. -/
theorem weight_at (e : Fin 64) :
    k0_pay15 (k0_pay10 X W) (k0_pay11 I0) (k0_pay12 I1) (k0_pay13 X W I0) (k0_pay14 X W I1) (ix2 r e) = wt (sc X W r) a b e := by
  pointwise [k0_pay15, k0_pay11, k0_pay12, k0_pay13, k0_pay14]
  simp only [ha, hb, sel_eq a.isLt (Fin.isLt _), sel_eq b.isLt (Fin.isLt _), sel_or a.isLt b.isLt (Fin.isLt _), prob_at, sum_sel]
  simp only [wt, Fin.ext_iff]

/-- A device's first gate is the weight of its first expert. -/
theorem gate0_at (c : Dev nD) : gate0 X W I0 I1 c (ix2 r 0) = wt (sc X W r) a b (exn c 0) := by
  unfold gate0
  pointwise [k0_pay16, lanes]
  simp only [weight_at X W I0 I1 r ha hb, (exn_word c).1, sel_eq (Fin.isLt _) (exn c 0).isLt, eq_comm (b := (exn c 0).val), sum_sel]
/-- A device's second gate is the weight of its second expert. -/
theorem gate1_at (c : Dev nD) : gate1 X W I0 I1 c (ix2 r 0) = wt (sc X W r) a b (exn c 1) := by
  unfold gate1
  pointwise [k0_pay17, lanes]
  simp only [weight_at X W I0 I1 r ha hb, (exn_word c).2.1, sel_eq (Fin.isLt _) (exn c 1).isLt, eq_comm (b := (exn c 1).val), sum_sel]
/-- A device's third gate is the weight of its third expert. -/
theorem gate2_at (c : Dev nD) : gate2 X W I0 I1 c (ix2 r 0) = wt (sc X W r) a b (exn c 2) := by
  unfold gate2
  pointwise [k0_pay18, lanes]
  simp only [weight_at X W I0 I1 r ha hb, (exn_word c).2.2.1, sel_eq (Fin.isLt _) (exn c 2).isLt, eq_comm (b := (exn c 2).val), sum_sel]
/-- A device's fourth gate is the weight of its fourth expert. -/
theorem gate3_at (c : Dev nD) : gate3 X W I0 I1 c (ix2 r 0) = wt (sc X W r) a b (exn c 3) := by
  unfold gate3
  pointwise [k0_pay19, lanes]
  simp only [weight_at X W I0 I1 r ha hb, (exn_word c).2.2.2, sel_eq (Fin.isLt _) (exn c 3).isLt, eq_comm (b := (exn c 3).val), sum_sel]
end

end Cert.Val

end
-- ==== Proof.Val.Part.lean ====
/- A device's partial result at an index: its four experts' outputs for the row, each times the row's weight of that expert. -/
module

public import proofs.«01_k».proof.Proof.Val.Gates

@[expose] public section

noncomputable section

namespace Cert.Val

open Cert.KernelIdeal Cert.KernelIdeal.Gen Cert.KI
open Idealize.ShloMosaic Idealize.ShloMosaic.TcCoe

/-- A row of activations scaled by a gate, against a column of one expert's matrix. -/
def term (X : FVec Ideal S512x256 .f32) (g : FVec Ideal S512x1 .f32) (M : Vec Ideal S1x256x512 .f32) (r j : Fin 512) : EReal :=
  ∑ k : Fin 256, X (ix2 r k) * g (ix2 r 0) * M (ix3 0 k j)

section Blocks
variable (X : FVec Ideal S512x256 .f32) (u0 u1 u2 u3 : FVec Ideal S512x1 .f32) (m0 m1 m2 m3 : Vec Ideal S1x256x512 .f32) (s : Fin 128) (j : Fin 512)

/-- Four experts' terms for a row. -/
def four (r : Fin 512) : EReal := term X u0 m0 r j + term X u1 m1 r j + term X u2 m2 r j + term X u3 m3 r j

/-- The block of the first 128 rows is the sum of the four experts' products. -/
theorem pay1_at : k0_pay1 X u0 u1 u2 u3 m0 m1 m2 m3 (ix2 s j) = four X u0 u1 u2 u3 m0 m1 m2 m3 j ⟨s.val, by omega⟩ := by
  pointwise [k0_pay1, four, term]
/-- The block of rows from 128 on is the sum of the four experts' products. -/
theorem pay3_at : k0_pay3 X u0 u1 u2 u3 m0 m1 m2 m3 (ix2 s j) = four X u0 u1 u2 u3 m0 m1 m2 m3 j ⟨128 + s.val, by omega⟩ := by
  pointwise [k0_pay3, four, term]
/-- The block of rows from 256 on is the sum of the four experts' products. -/
theorem pay5_at : k0_pay5 X u0 u1 u2 u3 m0 m1 m2 m3 (ix2 s j) = four X u0 u1 u2 u3 m0 m1 m2 m3 j ⟨256 + s.val, by omega⟩ := by
  pointwise [k0_pay5, four, term]
/-- The block of rows from 384 on is the sum of the four experts' products. -/
theorem pay7_at : k0_pay7 X u0 u1 u2 u3 m0 m1 m2 m3 (ix2 s j) = four X u0 u1 u2 u3 m0 m1 m2 m3 j ⟨384 + s.val, by omega⟩ := by
  pointwise [k0_pay7, four, term]
end Blocks

variable (A : Inp Ideal) (d : Dev nD) (r j : Fin 512)

/-- The partial result at an index is the sum of the row's four terms. -/
theorem part_four : part A d r.val j.val = four (A.x d) (g0 A d) (g1 A d) (g2 A d) (g3 A d) (e0 A d) (e1 A d) (e2 A d) (e3 A d) j r := by
  have hx : k0_pay9 (A.x d) = A.x d := by
    funext i
    idx_vars i
    pointwise [k0_pay9]
  have hj : (⟨j.val % 512, Nat.mod_lt _ (by decide)⟩ : Fin 512) = j := Fin.ext (Nat.mod_eq_of_lt j.isLt)
  have hr : r.val / 128 = 0 ∨ r.val / 128 = 1 ∨ r.val / 128 = 2 ∨ r.val / 128 = 3 := by omega
  unfold part at128
  rw [hj]
  rcases hr with h | h | h | h <;> rw [h, blk, hx]
  · rw [pay1_at]; congr 1; exact Fin.ext (by dsimp only; omega)
  · rw [pay3_at]; congr 1; exact Fin.ext (by dsimp only; omega)
  · rw [pay5_at]; congr 1; exact Fin.ext (by dsimp only; omega)
  · rw [pay7_at]; congr 1; exact Fin.ext (by dsimp only; omega)
  all_goals decide

/-- The routing table's first column, cut from the device's copy of it. -/
theorem col0_at : col0 A d (ix2 r 0) = A.ix d (ix2 r 0) := by
  unfold col0 col; congr 1; funext a; refine Fin.ext ?_; match a with | ⟨0, _⟩ => simp | ⟨1, _⟩ => simp
/-- The table's second column, cut from the device's copy of it. -/
theorem col1_at : col1 A d (ix2 r 0) = A.ix d (ix2 r 1) := by
  unfold col1 col; congr 1; funext a; refine Fin.ext ?_; match a with | ⟨0, _⟩ => simp | ⟨1, _⟩ => simp

/-- One expert's matrix at an index. -/
theorem exq_at (E : Vec Ideal S4x256x512 .f32) (q : Fin 4) (h : ∀ a, (![q.val, 0, 0] : Fin 3 → ℕ) a + S1x256x512.size a ≤ S4x256x512.size a)
    (k : Fin 256) : exq E q.val h (ix3 0 k j) = E (ix3 q k j) := by
  unfold exq; congr 1; funext a; refine Fin.ext ?_
  match a with | ⟨0, _⟩ => simp | ⟨1, _⟩ => simp | ⟨2, _⟩ => simp

/-- A DEVICE'S PARTIAL RESULT AT AN INDEX, for a row routed to experts `a` and `b`: over its four experts, the row of
    activations scaled by the row's weight of that expert, against the expert's column. -/
theorem part_at {a b : Fin 64} (ha : A.ix d (ix2 r 0) = BitVec.ofNat 32 a.val) (hb : A.ix d (ix2 r 1) = BitVec.ofNat 32 b.val) :
    part A d r.val j.val = ∑ q : Fin 4, ∑ k : Fin 256, A.x d (ix2 r k) * wt (sc (A.x d) (A.w d) r) a b (exn d q) * A.e d (ix3 q k j) := by
  have h0 := (col0_at A d r).trans ha
  have h1 := (col1_at A d r).trans hb
  have t : ∀ (q : Fin 4) (u : FVec Ideal S512x1 .f32) (M : Vec Ideal S1x256x512 .f32), u (ix2 r 0) = wt (sc (A.x d) (A.w d) r) a b (exn d q) →
      (∀ k, M (ix3 0 k j) = A.e d (ix3 q k j)) →
      term (A.x d) u M r j = ∑ k : Fin 256, A.x d (ix2 r k) * wt (sc (A.x d) (A.w d) r) a b (exn d q) * A.e d (ix3 q k j) := fun q u M hu hM => by
    unfold term
    exact Finset.sum_congr rfl fun k _ => by rw [hu, hM]
  rw [part_four, four, t 0 (g0 A d) (e0 A d) (gate0_at _ _ _ _ r h0 h1 d) (exq_at j _ 0 _), t 1 (g1 A d) (e1 A d) (gate1_at _ _ _ _ r h0 h1 d) (exq_at j _ 1 _),
    t 2 (g2 A d) (e2 A d) (gate2_at _ _ _ _ r h0 h1 d) (exq_at j _ 2 _), t 3 (g3 A d) (e3 A d) (gate3_at _ _ _ _ r h0 h1 d) (exq_at j _ 3 _), Fin.sum_univ_four]

end Cert.Val

end
-- ==== Proof.Val.Gather.lean ====
/- The reference's two gathers at an index, where the routing table holds small non-negative numbers. -/
module

public import proofs.«01_k».proof.Proof.Gen.ReferenceIdeal.Run
public import Idealize.ShloMosaic.Lib.Pointwise

@[expose] public section

noncomputable section

namespace Cert.Val

open Cert.ReferenceIdeal Cert.ReferenceIdeal.Gen Cert.ReferenceIdeal.Value
open Idealize.ShloMosaic Idealize.ShloMosaic.TcCoe

/-- Row numbers with negative ones counted from the end, as a column. -/
def rowIdx : IVec S512x1 32 := broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0))
/-- Expert numbers with negative ones counted from the end, as a column. -/
def wrap (v : IVec S512 32) : IVec S512x1 32 := broadcastInDim S512x1 ![0] bcast_S512_S512x1_0 (select (cmpi .slt v (broadcastInDim S512 ![] bcast_S_S512 (constantI S_ 32 0#32))) (addi v (broadcastInDim S512 ![] bcast_S_S512 (constantI S_ 32 64#32))) v)

/-- The word of a number below 512 is not negative. -/
theorem slt_zero {n : ℕ} (h : n < 512) : IntOp.cmpi .slt (BitVec.ofNat 32 n) 0#32 = 0#1 := by
  have e : (BitVec.ofNat 32 n).slt 0#32 = false := by
    rw [BitVec.slt_zero_eq_msb, BitVec.msb_eq_false_iff_two_mul_lt, BitVec.toNat_ofNat, Nat.mod_eq_of_lt (by omega)]; omega
  show BitVec.ofBool ((BitVec.ofNat 32 n).slt 0#32) = 0#1
  rw [e]; rfl
/-- A number below 512 reads back from its word as itself. -/
theorem toInt_small {n : ℕ} (h : n < 512) : (BitVec.ofNat 32 n).toInt.toNat = n := by
  rw [BitVec.toInt_eq_toNat_of_lt (by rw [BitVec.toNat_ofNat, Nat.mod_eq_of_lt (by omega)]; omega), BitVec.toNat_ofNat, Nat.mod_eq_of_lt (by omega)]
  rfl

/-- Row `r` is numbered `r`. -/
theorem rowIdx_at (r : Fin 512) : rowIdx (ix2 r 0) = BitVec.ofNat 32 r.val := by
  pointwise [rowIdx]
  rw [slt_zero r.isLt]; rfl

/-- An expert number below 64 is left as it is. -/
theorem wrap_at {v : IVec S512 32} {r : Fin 512} {a : Fin 64} (h : v (ix1 r) = BitVec.ofNat 32 a.val) : wrap v (ix2 r 0) = BitVec.ofNat 32 a.val := by
  pointwise [wrap]
  rw [h, slt_zero (by omega)]; rfl

/-- The probability of the expert a row names. -/
def pick (P : FVec Ideal S512x64 .f32) (v : IVec S512 32) : FVec Ideal S512 .f32 :=
  Host.gather gather_S512x64_S512x2_S512_n_01_n_n_01_1_11 P (concatenate S512x2 1 [⟨S512x1, rowIdx⟩, ⟨S512x1, wrap v⟩] concatenates_S512x1_S512x1_S512x2_d1)

/-- Where row `r` names expert `a`, the gathered probability is that of `(r, a)`. -/
theorem pick_at (P : FVec Ideal S512x64 .f32) {v : IVec S512 32} {r : Fin 512} {a : Fin 64} (h : v (ix1 r) = BitVec.ofNat 32 a.val) :
    pick P v (ix1 r) = P (ix2 r a) := by
  have c0 : concatenate S512x2 1 [⟨S512x1, rowIdx⟩, ⟨S512x1, wrap v⟩] concatenates_S512x1_S512x1_S512x2_d1 (ix2 r 0) = BitVec.ofNat 32 r.val := by
    pointwise
    exact rowIdx_at r
  have c1 : concatenate S512x2 1 [⟨S512x1, rowIdx⟩, ⟨S512x1, wrap v⟩] concatenates_S512x1_S512x1_S512x2_d1 (ix2 r 1) = BitVec.ofNat 32 a.val := by
    pointwise
    exact wrap_at h
  unfold pick Host.gather
  generalize concatenate S512x2 1 [⟨S512x1, rowIdx⟩, ⟨S512x1, wrap v⟩] concatenates_S512x1_S512x1_S512x2_d1 = q at c0 c1
  congr 1
  funext i
  refine Fin.ext ?_
  match i with
  | ⟨0, _⟩ =>
    show min (q ((gather_S512x64_S512x2_S512_n_01_n_n_01_1_11).siIdx (ix1 r) ⟨0, by decide⟩)).toInt.toNat (512 - 1) + 0 + 0 = r.val
    have e : (gather_S512x64_S512x2_S512_n_01_n_n_01_1_11).siIdx (ix1 r) ⟨0, by decide⟩ = ix2 r 0 := by
      funext b; refine Fin.ext ?_; match b with | ⟨0, _⟩ => rfl | ⟨1, _⟩ => rfl
    rw [e, c0, toInt_small r.isLt]; omega
  | ⟨1, _⟩ =>
    show min (q ((gather_S512x64_S512x2_S512_n_01_n_n_01_1_11).siIdx (ix1 r) ⟨1, by decide⟩)).toInt.toNat (64 - 1) + 0 + 0 = a.val
    have e : (gather_S512x64_S512x2_S512_n_01_n_n_01_1_11).siIdx (ix1 r) ⟨1, by decide⟩ = ix2 r 1 := by
      funext b; refine Fin.ext ?_; match b with | ⟨0, _⟩ => rfl | ⟨1, _⟩ => rfl
    rw [e, c1, toInt_small (by omega)]; omega

/-- The matrix of the expert a row names. -/
def rowsOf (E : FVec Ideal S64x256x512 .f32) (v : IVec S512 32) : FVec Ideal S512x256x512 .f32 :=
  Host.gather gather_S64x256x512_S512x1_S512x256x512_12_0_n_n_0_1_1256512 E (wrap v)

/-- Where row `r` names expert `a`, the gathered matrix is expert `a`'s. -/
theorem rowsOf_at (E : FVec Ideal S64x256x512 .f32) {v : IVec S512 32} {r : Fin 512} {a : Fin 64} (h : v (ix1 r) = BitVec.ofNat 32 a.val)
    (k : Fin 256) (j : Fin 512) : rowsOf E v (ix3 r k j) = E (ix3 a k j) := by
  have c0 := wrap_at h
  unfold rowsOf Host.gather
  generalize wrap v = q at c0
  congr 1
  funext i
  refine Fin.ext ?_
  match i with
  | ⟨0, _⟩ =>
    show min (q ((gather_S64x256x512_S512x1_S512x256x512_12_0_n_n_0_1_1256512).siIdx (ix3 r k j) ⟨0, by decide⟩)).toInt.toNat (64 - 1) + 0 + 0 = a.val
    have e : (gather_S64x256x512_S512x1_S512x256x512_12_0_n_n_0_1_1256512).siIdx (ix3 r k j) ⟨0, by decide⟩ = ix2 r 0 := by
      funext b; refine Fin.ext ?_; match b with | ⟨0, _⟩ => rfl | ⟨1, _⟩ => rfl
    rw [e, c0, toInt_small (by omega)]; omega
  | ⟨1, _⟩ =>
    show 0 + 0 + k.val = k.val
    omega
  | ⟨2, _⟩ =>
    show 0 + 0 + j.val = j.val
    omega

end Cert.Val

end
-- ==== Proof.Val.Ref.lean ====
/- The reference's result at an index: the two routed experts' outputs, weighted by their shares of the two probabilities. -/
module

public import proofs.«01_k».proof.Proof.Val.Gather
public import proofs.«01_k».proof.Proof.Val.Gates

@[expose] public section

noncomputable section

namespace Cert.Val

open Cert.ReferenceIdeal Cert.ReferenceIdeal.Gen Cert.ReferenceIdeal.Value
open Idealize.ShloMosaic Idealize.ShloMosaic.TcCoe

section
variable (X : FVec Ideal S512x256 .f32) (W : FVec Ideal S256x64 .f32)

/-- The reference's scores. -/
def rScores : FVec Ideal S512x64 .f32 := Host.dotGeneral dot_S512x256_S256x64_S512x64_1_0_0_1_n_n none X W
/-- The exponentials of the scores against each row's greatest. -/
def rExps : FVec Ideal S512x64 .f32 := Host.exp (subf (rScores X W) (broadcastInDim S512x64 ![0, 1] bcast_S512x1_S512x64_0_1 (broadcastInDim S512x1 ![0] bcast_S512_S512x1_0 (Host.reduce FloatOps.maximumf (rScores X W) (constant S_ .f32 0xFF800000#32) reducesTo_S512x64_S512_d1 h_S_))))
/-- The reference's probabilities. -/
def rProbs : FVec Ideal S512x64 .f32 := Host.divf (rExps X W) (broadcastInDim S512x64 ![0, 1] bcast_S512x1_S512x64_0_1 (broadcastInDim S512x1 ![0] bcast_S512_S512x1_0 (Host.reduceAdd (rExps X W) (constant S_ .f32 0x00000000#32) reducesTo_S512x64_S512_d1 h_S_)))

/-- A score of the reference is the row of activations times the router's column. -/
theorem rScores_at (r : Fin 512) (e : Fin 64) : rScores X W (ix2 r e) = sc X W r e := by
  pointwise [rScores]
  rfl

/-- An exponential of the reference, written with the row of scores. -/
theorem rExps_at (r : Fin 512) (e : Fin 64) : rExps X W (ix2 r e) = Ideal.exp (sc X W r e - top (sc X W r)) := by
  pointwise [rExps]
  rw [start_bot]
  simp only [rScores_at]
  rfl

/-- They are the softmax of the scores. -/
theorem rProbs_at (r : Fin 512) (e : Fin 64) : rProbs X W (ix2 r e) = prob (sc X W r) e := by
  pointwise [rProbs]
  simp only [rExps_at]
  rfl
end

/-- The routing table's first column. -/
def rCol0 (I : IVec S512x2 32) : IVec S512 32 := shapeCast _ (extractStridedSlice S512x1 ![0, 0] I slices_S512x2_S512x1_0_0) shapeCasts_S512x1_S512
/-- The routing table's second column. -/
def rCol1 (I : IVec S512x2 32) : IVec S512 32 := shapeCast _ (extractStridedSlice S512x1 ![0, 1] I slices_S512x2_S512x1_0_1) shapeCasts_S512x1_S512

/-- The first column at row `r`. -/
theorem rCol0_at (I : IVec S512x2 32) (r : Fin 512) : rCol0 I (ix1 r) = I (ix2 r 0) := by pointwise [rCol0]
/-- The second column at row `r`. -/
theorem rCol1_at (I : IVec S512x2 32) (r : Fin 512) : rCol1 I (ix1 r) = I (ix2 r 1) := by pointwise [rCol1]

/-- One routed expert's contribution: its share of the two probabilities, times its output. -/
def share (P : FVec Ideal S512x64 .f32) (X : FVec Ideal S512x256 .f32) (E : FVec Ideal S64x256x512 .f32) (v v0 v1 : IVec S512 32) : FVec Ideal S512x512 .f32 :=
  mulf (broadcastInDim S512x512 ![0, 1] bcast_S512x1_S512x512_0_1 (broadcastInDim S512x1 ![0] bcast_S512_S512x1_0 (Host.divf (pick P v) (addf (pick P v0) (pick P v1)))))
    (Host.dotGeneral dot_S512x256_S512x256x512_S512x512_1_1_n_2_0_0 none X (rowsOf E v))

/-- A routed expert's contribution at an index, for the row's experts `a` and `b` and the one of them that it is of, `e`. -/
theorem share_at (P : FVec Ideal S512x64 .f32) (X : FVec Ideal S512x256 .f32) (E : FVec Ideal S64x256x512 .f32) {v v0 v1 : IVec S512 32} {e a b : Fin 64}
    {r : Fin 512} (j : Fin 512) (h : v (ix1 r) = BitVec.ofNat 32 e.val) (ha : v0 (ix1 r) = BitVec.ofNat 32 a.val) (hb : v1 (ix1 r) = BitVec.ofNat 32 b.val) :
    share P X E v v0 v1 (ix2 r j) = Ideal.div (P (ix2 r e)) (P (ix2 r a) + P (ix2 r b)) * ∑ k : Fin 256, X (ix2 r k) * E (ix3 e k j) := by
  pointwise [share]
  simp only [pick_at P h, pick_at P ha, pick_at P hb, rowsOf_at E h]

/-- THE REFERENCE'S RESULT AT AN INDEX, for a row routed to experts `a` and `b`. -/
theorem ref_at (m : (ℓ : Loc nD τ sig) → Buf (Elt Ideal) ℓ) (c : Dev nD) (X : FVec Ideal S512x256 .f32) (W : FVec Ideal S256x64 .f32)
    (I : IVec S512x2 32) (E : FVec Ideal S64x256x512 .f32)
    (hX : m ((c.tc : Thread nD τ).loc main_arg0) = X) (hW : m ((c.tc : Thread nD τ).loc main_arg1) = W)
    (hI : m ((c.tc : Thread nD τ).loc main_arg2) = I) (hE : m ((c.tc : Thread nD τ).loc main_arg3) = E)
    (r j : Fin 512) {a b : Fin 64} (ha : I (ix2 r 0) = BitVec.ofNat 32 a.val) (hb : I (ix2 r 1) = BitVec.ofNat 32 b.val) :
    res_main_v68 m c (ix2 r j)
      = Ideal.div (prob (sc X W r) a) (prob (sc X W r) a + prob (sc X W r) b) * (∑ k : Fin 256, X (ix2 r k) * E (ix3 a k j))
        + Ideal.div (prob (sc X W r) b) (prob (sc X W r) a + prob (sc X W r) b) * ∑ k : Fin 256, X (ix2 r k) * E (ix3 b k j) := by
  have e : res_main_v68 m c = addf (share (rProbs X W) X E (rCol0 I) (rCol0 I) (rCol1 I)) (share (rProbs X W) X E (rCol1 I) (rCol0 I) (rCol1 I)) := by
    subst hX hW hI hE
    rfl
  rw [e]
  have h0 := (rCol0_at I r).trans ha
  have h1 := (rCol1_at I r).trans hb
  show share _ _ _ _ _ _ (ix2 r j) + share _ _ _ _ _ _ (ix2 r j) = (_ : EReal)
  rw [share_at _ X E j h0 h0 h1, share_at _ X E j h1 h0 h1]
  simp only [rProbs_at]

end Cert.Val

end
-- ==== Proof.Val.Pre.lean ====
/- What the precondition says: the activations and the router's matrix are real, and every row is routed to two different
   experts. -/
module

public import proofs.«01_k».proof.Pre_routed_KernelIdeal
public import Idealize.ShloMosaic.Lib.ReduceAll
public import Idealize.ShloMosaic.Lib.Pointwise

@[expose] public section

noncomputable section

namespace Cert.Val

open Cert.Pre_routed_KernelIdeal
open Idealize.ShloMosaic Idealize.ShloMosaic.TcCoe

/-- A conjunction of two bits is set only where both are. -/
theorem and_one {a b : BitVec 1} (h : IntOp.andi a b = 1#1) : a = 1#1 ∧ b = 1#1 := by
  revert a b; decide

/-- A value below infinity in magnitude is real. -/
theorem real_of_lt {v : EReal} (h : FloatOps.cmpf (F := Ideal) (φ := .f32) .olt (FloatOps.hostAbsf (F := Ideal) (φ := .f32) v) (Ideal.ofBits .f32 0x7F800000#32) = 1#1) : ∃ t : ℝ, v = t := by
  have e : Ideal.ofBits .f32 0x7F800000#32 = ⊤ := by simp [Ideal.ofBits, Ideal.ieee]
  rw [e] at h
  have h' : FloatOps.absf (F := Ideal) (φ := .f32) v < (⊤ : EReal) := by
    by_contra hn
    have hz : FloatOps.cmpf (F := Ideal) (φ := .f32) .olt (FloatOps.hostAbsf (F := Ideal) (φ := .f32) v) (⊤ : EReal) = 0#1 :=
      congrArg BitVec.ofBool (decide_eq_false hn)
    exact absurd (h.symm.trans hz) (by decide)
  induction v using EReal.rec with
  | coe t => exact ⟨t, rfl⟩
  | bot => exact absurd h' (lt_irrefl (⊤ : EReal))
  | top => exact absurd h' (lt_irrefl (⊤ : EReal))

/-- A word between 0 and 64 is a number below 64. -/
theorem small_of {w : BitVec 32} (h0 : IntOp.cmpi .sge w 0#32 = 1#1) (h1 : IntOp.cmpi .slt w 64#32 = 1#1) : ∃ a : Fin 64, w = BitVec.ofNat 32 a.val := by
  rw [IntOp.cmpi_sge] at h0
  rw [IntOp.cmpi_slt] at h1
  have z : (0#32 : BitVec 32).toInt = 0 := by decide
  have q : (64#32 : BitVec 32).toInt = 64 := by decide
  rw [z] at h0
  rw [q] at h1
  have t := BitVec.toInt_eq_toNat_cond w
  have l := w.isLt
  have hn : w.toNat < 64 := by split_ifs at t <;> omega
  exact ⟨⟨w.toNat, hn⟩, BitVec.eq_of_toNat_eq (by rw [BitVec.toNat_ofNat, Nat.mod_eq_of_lt (by omega)])⟩

variable [Facts] {X : FVec Ideal S512x256 .f32} {W : FVec Ideal S256x64 .f32} {I : IVec S512x2 32} {E : FVec Ideal S4x256x512 .f32}

/-- What the precondition says: the activations and the router are real numbers, and each row names two different experts. -/
theorem pre_read (h : fn (F := Ideal) X W I E = fun _ => 1#1) :
    (∀ i, ∃ t : ℝ, X i = t) ∧ (∀ i, ∃ t : ℝ, W i = t)
      ∧ ∀ r : Fin 512, ∃ a b : Fin 64, a ≠ b ∧ I (ix2 r 0) = BitVec.ofNat 32 a.val ∧ I (ix2 r 1) = BitVec.ofNat 32 b.val := by
  have h0 := congrFun h (Shape.Idx.first Facts.h_S_)
  simp only [fn, fn_part1] at h0
  obtain ⟨hf, hi⟩ := and_one h0
  obtain ⟨hx, hw⟩ := and_one hf
  refine ⟨fun i => real_of_lt ?_, fun i => real_of_lt ?_, fun r => ?_⟩
  · have hb := Host.reduce_andi_all _ _ _ _ _ hx i
    idx_vars i
    pointwise at hb
    exact hb
  · have hb := Host.reduce_andi_all _ _ _ _ _ hw i
    idx_vars i
    pointwise at hb
    exact hb
  · have hb := Host.reduce_andi_all _ _ _ _ _ hi (ix1 r)
    pointwise at hb
    obtain ⟨hb, hne⟩ := and_one hb
    obtain ⟨hb, b1⟩ := and_one hb
    obtain ⟨hb, b0⟩ := and_one hb
    obtain ⟨a0, a1⟩ := and_one hb
    obtain ⟨a, ha⟩ := small_of a0 a1
    obtain ⟨b, hb⟩ := small_of b0 b1
    rw [IntOp.cmpi_ne] at hne
    exact ⟨a, b, fun e => hne (by rw [ha, hb, e]), ha, hb⟩

end Cert.Val

end
-- ==== Proof.Val.Equation.lean ====
/- The equation: on every device the kernel's result array ends holding the reference's result. -/
module

public import proofs.«01_k».proof.Proof.KI.Finish
public import proofs.«01_k».proof.Proof.Val.Sum
public import proofs.«01_k».proof.Proof.Val.Part
public import proofs.«01_k».proof.Proof.Val.Ref
public import proofs.«01_k».proof.Proof.Val.Pre
public import Idealize.ShloMosaic.Lib.Pipeline.ValueKit.Acc
public import Idealize.ShloMosaic.Lib.Layout

@[expose] public section

noncomputable section

namespace Cert.Val

open Cert.KI
open Idealize.ShloMosaic Idealize.ShloMosaic.TcCoe

/-- Expert `q` of device `d`'s block is expert `4 d + q` of the whole array. -/
theorem block_at (E : FVec Ideal ⟨3, ![64, 256, 512]⟩ .f32) (d : Dev Cert.KernelIdeal.nD) (q : Fin 4) (k : Fin 256) (j : Fin 512) :
    (Layout.block ⟨3, ![4, 256, 512]⟩ ⟨3, ![64, 256, 512]⟩ 0 16 d E : FVec Ideal ⟨3, ![4, 256, 512]⟩ .f32) (ix3 q k j) = E (ix3 (exn d q) k j) := by
  rw [Layout.block_apply]
  congr 1
  funext a
  refine Fin.ext ?_
  match a with
  | ⟨0, _⟩ => rfl
  | ⟨1, _⟩ => rfl
  | ⟨2, _⟩ => rfl

/-- Summing over the devices and each device's four experts is summing over all 64. -/
theorem sum_experts (f : Fin 64 → EReal) : ∑ d : Dev Cert.KernelIdeal.nD, ∑ q : Fin 4, f (exn d q) = ∑ e, f e :=
  Fin.sum_mul_add_fin 16 4 f

/-- THE KERNEL'S RESULT AT AN INDEX, for replicated activations, router and routing table, real scores, and a row routed to
    two different experts: the two experts' outputs weighted by their shares of the two probabilities. -/
theorem kernel_at (A : Inp Ideal) (X : FVec Ideal ⟨2, ![512, 256]⟩ .f32) (W : FVec Ideal ⟨2, ![256, 64]⟩ .f32) (I : IVec ⟨2, ![512, 2]⟩ 32)
    (E : FVec Ideal ⟨3, ![64, 256, 512]⟩ .f32) (hX : ∀ d, A.x d = X) (hW : ∀ d, A.w d = W) (hI : ∀ d, A.ix d = I)
    (hE : ∀ d, A.e d = Layout.block ⟨3, ![4, 256, 512]⟩ ⟨3, ![64, 256, 512]⟩ 0 16 d E)
    (rX : ∀ i, ∃ t : ℝ, X i = t) (rW : ∀ i, ∃ t : ℝ, W i = t) (c : Dev Cert.KernelIdeal.nD) (r j : Fin 512) {a b : Fin 64} (hab : a ≠ b)
    (ha : I (ix2 r 0) = BitVec.ofNat 32 a.val) (hb : I (ix2 r 1) = BitVec.ofNat 32 b.val) :
    outAt A c ![4, 5, 5, 4, 5, 5] (ix2 r j)
      = Ideal.div (prob (sc X W r) a) (prob (sc X W r) a + prob (sc X W r) b) * (∑ k : Fin 256, X (ix2 r k) * E (ix3 a k j))
        + Ideal.div (prob (sc X W r) b) (prob (sc X W r) a + prob (sc X W r) b) * ∑ k : Fin 256, X (ix2 r k) * E (ix3 b k j) := by
  have hs : ∀ e, ∃ t : ℝ, sc X W r e = t := fun e => by
    choose x hx using rX
    choose w hw using rW
    refine ⟨∑ k, x (ix2 r k) * w (ix2 k e), ?_⟩
    rw [coe_sum]
    refine Finset.sum_congr rfl fun k _ => ?_
    show X (ix2 r k) * W (ix2 k e) = _
    rw [hx, hw, EReal.coe_mul]
  rw [← mix (sc X W r) hs hab (fun k => X (ix2 r k)) (fun e k => E (ix3 e k j)), ← sum_experts, out_all]
  refine Finset.sum_congr rfl fun d _ => ?_
  refine (part_at A d r j (by rw [hI, ha]) (by rw [hI, hb])).trans ?_
  refine Finset.sum_congr rfl fun q _ => Finset.sum_congr rfl fun k _ => ?_
  rw [hX, hW, hE, block_at]

end Cert.Val

end
-- ==== Proof.Value.lean ====
/- The value claim: where the precondition holds, every device of the exact kernel ends holding the reference's result. -/
module

public import proofs.«01_k».proof.Proof.Frames
public import proofs.«01_k».proof.Proof.Val.Equation
public import proofs.«01_k».proof.Proof.Gen.Pre_routed_KernelIdeal
public import proofs.«01_k».proof.Proof.Gen.Pre_routed_ReferenceIdeal

@[expose] public section

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (X : FVec Ideal ⟨2, ![512, 256]⟩ .f32) (W : FVec Ideal ⟨2, ![256, 64]⟩ .f32) (I : IVec ⟨2, ![512, 2]⟩ 32) (E : FVec Ideal ⟨3, ![64, 256, 512]⟩ .f32)

/-- Both programs' results are the same array, when each device holds the activations, the router's matrix and the routing
    table whole and its block of the experts, and the precondition holds of them. -/
theorem results_eq
    (hX' : m' (((0 : Dev Cert.ReferenceIdeal.nD).tc : Thread Cert.ReferenceIdeal.nD Cert.ReferenceIdeal.τ).loc Cert.ReferenceIdeal.main_arg0) = X)
    (hW' : m' (((0 : Dev Cert.ReferenceIdeal.nD).tc : Thread Cert.ReferenceIdeal.nD Cert.ReferenceIdeal.τ).loc Cert.ReferenceIdeal.main_arg1) = W)
    (hI' : m' (((0 : Dev Cert.ReferenceIdeal.nD).tc : Thread Cert.ReferenceIdeal.nD Cert.ReferenceIdeal.τ).loc Cert.ReferenceIdeal.main_arg2) = I)
    (hE' : m' (((0 : Dev Cert.ReferenceIdeal.nD).tc : Thread Cert.ReferenceIdeal.nD Cert.ReferenceIdeal.τ).loc Cert.ReferenceIdeal.main_arg3) = E)
    (hX : ∀ c, (Cert.KI.inp m).x c = X) (hW : ∀ c, (Cert.KI.inp m).w c = W) (hI : ∀ c, (Cert.KI.inp m).ix c = I)
    (hE : ∀ c, (Cert.KI.inp m).e c = Layout.block ⟨3, ![4, 256, 512]⟩ ⟨3, ![64, 256, 512]⟩ 0 16 c E)
    (rX : ∀ i, ∃ t : ℝ, X i = t) (rW : ∀ i, ∃ t : ℝ, W i = t)
    (rI : ∀ r : Fin 512, ∃ a b : Fin 64, a ≠ b ∧ I (ix2 r 0) = BitVec.ofNat 32 a.val ∧ I (ix2 r 1) = BitVec.ofNat 32 b.val)
    (c : Dev Cert.KernelIdeal.nD) :
    Cert.KI.outAt (Cert.KI.inp m) c ![4, 5, 5, 4, 5, 5] = Cert.ReferenceIdeal.Value.res_main_v68 m' (0 : Dev Cert.ReferenceIdeal.nD) := by
  funext i
  obtain ⟨r, j, rfl⟩ : ∃ (r : Fin 512) (j : Fin 512), i = ix2 r j := ⟨i 0, i 1, by funext a; match a with | ⟨0, _⟩ => rfl | ⟨1, _⟩ => rfl⟩
  obtain ⟨a, b, hab, ha, hb⟩ := rI r
  exact (Cert.Val.kernel_at (Cert.KI.inp m) X W I E hX hW hI hE rX rW c r j hab ha hb).trans
    (Cert.Val.ref_at m' 0 X W I E hX' hW' hI' hE' r j ha hb).symm
end

/-- The exact kernel computes what the reference computes. -/
theorem value : Cert.algebraic_KernelIdeal_ReferenceIdeal_pre_routed_KernelIdeal := by
  intro m g m' g' hpre hargs
  obtain ⟨rX, rW, rI⟩ := Cert.Val.pre_read (hpre 0)
  rw [(hargs 0).1] at rX
  rw [(hargs 0).2.1] at rW
  rw [(hargs 0).2.2.1] at rI
  refine ⟨Cert.ReferenceIdeal.Value.res_main_v68 m' (0 : Dev Cert.ReferenceIdeal.nD), ?_, ?_⟩
  · refine (θ_run Cert.KernelIdeal.defs _ _).mono (fun r h c => ?_) (Cert.KI.run_ends (F := Ideal) m g)
    refine ⟨(h.1 c).1.trans ?_, (h.1 c).2⟩
    exact results_eq m m' _ _ _ _ rfl rfl rfl rfl (fun c => (Cert.KI.inp_x m c).trans (hargs c).1) (fun c => (Cert.KI.inp_w m c).trans (hargs c).2.1)
      (fun c => (Cert.KI.inp_ix m c).trans (hargs c).2.2.1) (fun c => (Cert.KI.inp_e m c).trans (hargs c).2.2.2) rX rW rI c
  · exact (θ_run Cert.ReferenceIdeal.defs _ _).mono (fun r h => h 0) (Cert.ReferenceIdeal.Value.run (F := Ideal) m' g')

end Cert.Proof

end
-- ==== Proof.lean ====
/- The certificate: the frames of the three programs, that the exact kernel keeps the kernel's operations, and that it computes
   what the reference computes. -/
module

public import proofs.«01_k».proof.Proof.Frames
public import proofs.«01_k».proof.Proof.Value

@[expose] public section

noncomputable section

namespace Cert.Proof

/-- All the claims together. -/
theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts,
    frame_kernel, frame_ideal, fun m ρ _ => frame_ideal m ρ trivial, frame_reference, fun m ρ _ => frame_reference m ρ trivial, trivial, value⟩

end Cert.Proof

end
